-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_edges [hPre_drawn_edges : Cert.Pre_drawn_edges.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_drawn_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_drawn_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_drawn_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_drawn_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_drawn_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_edges [hPre_drawn_edges : Cert.Pre_drawn_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_drawn_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_drawn_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_drawn_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_drawn_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_drawn_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_drawn_edges [hKernelIdeal : Cert.KernelIdeal.Facts] [hPre_drawn_edges : Cert.Pre_drawn_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_drawn_edges [hReferenceIdeal : Cert.ReferenceIdeal.Facts] [hPre_drawn_edges : Cert.Pre_drawn_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_drawn_edges [hKernelIdeal : Cert.KernelIdeal.Facts] [hReferenceIdeal : Cert.ReferenceIdeal.Facts] [hPre_drawn_edges : Cert.Pre_drawn_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v444) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_drawn_edges : Cert.Pre_drawn_edges.Facts),
    quiescent_Kernel (hKernel := hKernel)
    ∧ quiescent_KernelIdeal (hKernelIdeal := hKernelIdeal)
    ∧ quiescent_KernelIdeal_pre_drawn_edges (hKernelIdeal := hKernelIdeal) (hPre_drawn_edges := hPre_drawn_edges)
    ∧ quiescent_ReferenceIdeal (hReferenceIdeal := hReferenceIdeal)
    ∧ quiescent_ReferenceIdeal_pre_drawn_edges (hReferenceIdeal := hReferenceIdeal) (hPre_drawn_edges := hPre_drawn_edges)
    ∧ preserves_Kernel_KernelIdeal
    ∧ algebraic_KernelIdeal_ReferenceIdeal_pre_drawn_edges (hKernelIdeal := hKernelIdeal) (hReferenceIdeal := hReferenceIdeal) (hPre_drawn_edges := hPre_drawn_edges)
-- ==== Pre_drawn_edges.lean ====
abbrev S25000x128 : Shape := ⟨2, ![25000, 128]⟩
abbrev S400000 : Shape := ⟨1, ![400000]⟩
abbrev S200000 : Shape := ⟨1, ![200000]⟩
abbrev S5x128x128 : Shape := ⟨3, ![5, 128, 128]⟩
abbrev S128x64 : Shape := ⟨2, ![128, 64]⟩
abbrev S64 : Shape := ⟨1, ![64]⟩
abbrev S2x64x64 : Shape := ⟨3, ![2, 64, 64]⟩
abbrev S2x5 : Shape := ⟨2, ![2, 5]⟩
abbrev S_ : Shape := ⟨0, ![]⟩

class Facts : Prop where
  bcast_S_S400000 : S_.BroadcastsInDim S400000 (![] : Fin 0 → Fin S400000.rank)
  bcast_S_S25000x128 : S_.BroadcastsInDim S25000x128 (![] : Fin 0 → Fin S25000x128.rank)
  bcast_S_S5x128x128 : S_.BroadcastsInDim S5x128x128 (![] : Fin 0 → Fin S5x128x128.rank)

variable [Facts]

def fn_part1 {F : FTy → Type} [FloatOps F] (main_arg1 : FVec F S25000x128 .f32) (main_arg7 : FVec F S5x128x128 .f32) (main_v4 : IVec S400000 1) (main_v9 : IVec S400000 1) (main_v14 : IVec S400000 1) (main_v15 : FVec F S25000x128 .f32) (main_v16 : FVec F S25000x128 .f32) : IVec S400000 1 × IVec S400000 1 × IVec S400000 1 × IVec S25000x128 1 × IVec S25000x128 1 × IVec S5x128x128 1 :=
  let main_v17 : IVec S25000x128 1 := cmpf .olt main_v15 main_v16
  let main_v18 : FVec F S25000x128 .f32 := Host.absf main_arg1
  let main_cst_5 : FVec F S_ .f32 := constant S_ .f32 0x7F800000#32
  let main_v19 : FVec F S25000x128 .f32 := broadcastInDim S25000x128 ![] bcast_S_S25000x128 main_cst_5
  let main_v20 : IVec S25000x128 1 := cmpf .olt main_v18 main_v19
  let main_v21 : FVec F S5x128x128 .f32 := Host.absf main_arg7
  let main_cst_6 : FVec F S_ .f32 := constant S_ .f32 0x7F800000#32
  let main_v22 : FVec F S5x128x128 .f32 := broadcastInDim S5x128x128 ![] bcast_S_S5x128x128 main_cst_6
  let main_v23 : IVec S5x128x128 1 := cmpf .olt main_v21 main_v22
  (main_v4, main_v9, main_v14, main_v17, main_v20, main_v23)

def fn {F : FTy → Type} [FloatOps F] (main_arg0 : FVec F S25000x128 .f32) (main_arg1 : FVec F S25000x128 .f32) (main_arg2 : IVec S400000 32) (main_arg3 : IVec S400000 32) (main_arg4 : IVec S400000 32) (main_arg5 : IVec S200000 32) (main_arg6 : IVec S200000 32) (main_arg7 : FVec F S5x128x128 .f32) (main_arg8 : FVec F S128x64 .f32) (main_arg9 : FVec F S64 .f32) (main_arg10 : FVec F S2x64x64 .f32) (main_arg11 : FVec F S2x5 .f32) : IVec S400000 1 × IVec S400000 1 × IVec S400000 1 × IVec S25000x128 1 × IVec S25000x128 1 × IVec S5x128x128 1 :=
  let main_c : IVec S_ 32 := constantI S_ 32 0#32
  let main_v0 : IVec S400000 32 := broadcastInDim S400000 ![] bcast_S_S400000 main_c
  let main_v1 : IVec S400000 1 := cmpi .sge main_arg2 main_v0
  let main_c_0 : IVec S_ 32 := constantI S_ 32 25000#32
  let main_v2 : IVec S400000 32 := broadcastInDim S400000 ![] bcast_S_S400000 main_c_0
  let main_v3 : IVec S400000 1 := cmpi .slt main_arg2 main_v2
  let main_v4 : IVec S400000 1 := andi main_v1 main_v3
  let main_c_1 : IVec S_ 32 := constantI S_ 32 0#32
  let main_v5 : IVec S400000 32 := broadcastInDim S400000 ![] bcast_S_S400000 main_c_1
  let main_v6 : IVec S400000 1 := cmpi .sge main_arg3 main_v5
  let main_c_2 : IVec S_ 32 := constantI S_ 32 25000#32
  let main_v7 : IVec S400000 32 := broadcastInDim S400000 ![] bcast_S_S400000 main_c_2
  let main_v8 : IVec S400000 1 := cmpi .slt main_arg3 main_v7
  let main_v9 : IVec S400000 1 := andi main_v6 main_v8
  let main_c_3 : IVec S_ 32 := constantI S_ 32 0#32
  let main_v10 : IVec S400000 32 := broadcastInDim S400000 ![] bcast_S_S400000 main_c_3
  let main_v11 : IVec S400000 1 := cmpi .sge main_arg4 main_v10
  let main_c_4 : IVec S_ 32 := constantI S_ 32 5#32
  let main_v12 : IVec S400000 32 := broadcastInDim S400000 ![] bcast_S_S400000 main_c_4
  let main_v13 : IVec S400000 1 := cmpi .slt main_arg4 main_v12
  let main_v14 : IVec S400000 1 := andi main_v11 main_v13
  let main_v15 : FVec F S25000x128 .f32 := Host.absf main_arg0
  let main_cst : FVec F S_ .f32 := constant S_ .f32 0x7F800000#32
  let main_v16 : FVec F S25000x128 .f32 := broadcastInDim S25000x128 ![] bcast_S_S25000x128 main_cst
  fn_part1 (F := F) main_arg1 main_arg7 main_v4 main_v9 main_v14 main_v15 main_v16
-- ==== Kernel.lean ====
abbrev S25000x128 : Shape := ⟨2, ![25000, 128]⟩
abbrev S400000 : Shape := ⟨1, ![400000]⟩
abbrev S200000 : Shape := ⟨1, ![200000]⟩
abbrev S5x128x128 : Shape := ⟨3, ![5, 128, 128]⟩
abbrev S128x64 : Shape := ⟨2, ![128, 64]⟩
abbrev S64 : Shape := ⟨1, ![64]⟩
abbrev S2x64x64 : Shape := ⟨3, ![2, 64, 64]⟩
abbrev S2x5 : Shape := ⟨2, ![2, 5]⟩
abbrev S_ : Shape := ⟨0, ![]⟩
abbrev S125000 : Shape := ⟨1, ![125000]⟩
abbrev S400000x1 : Shape := ⟨2, ![400000, 1]⟩
abbrev S400000x128 : Shape := ⟨2, ![400000, 128]⟩
abbrev S125000x128 : Shape := ⟨2, ![125000, 128]⟩
abbrev S125000x1 : Shape := ⟨2, ![125000, 1]⟩
abbrev S25000x640 : Shape := ⟨2, ![25000, 640]⟩
abbrev S640x128 : Shape := ⟨2, ![640, 128]⟩
abbrev S1x64 : Shape := ⟨2, ![1, 64]⟩
abbrev S8x64 : Shape := ⟨2, ![8, 64]⟩
abbrev S50000x640 : Shape := ⟨2, ![50000, 640]⟩
abbrev S50000x64 : Shape := ⟨2, ![50000, 64]⟩
abbrev S2000x640 : Shape := ⟨2, ![2000, 640]⟩
abbrev S2000x64 : Shape := ⟨2, ![2000, 64]⟩
abbrev S2000x128 : Shape := ⟨2, ![2000, 128]⟩
abbrev S25000x64 : Shape := ⟨2, ![25000, 64]⟩
abbrev S200000x1 : Shape := ⟨2, ![200000, 1]⟩
abbrev S200000x64 : Shape := ⟨2, ![200000, 64]⟩
abbrev S2x8 : Shape := ⟨2, ![2, 8]⟩
abbrev S1 : Shape := ⟨1, ![1]⟩
abbrev S200000x8 : Shape := ⟨2, ![200000, 8]⟩
abbrev S2000x8 : Shape := ⟨2, ![2000, 8]⟩
abbrev S1x64x64 : Shape := ⟨3, ![1, 64, 64]⟩
abbrev S64x64 : Shape := ⟨2, ![64, 64]⟩
abbrev S2000 : Shape := ⟨1, ![2000]⟩
abbrev S2000x1 : Shape := ⟨2, ![2000, 1]⟩
abbrev S1x8 : Shape := ⟨2, ![1, 8]⟩
abbrev S200000x5 : Shape := ⟨2, ![200000, 5]⟩

abbrev nBuf : Space → Nat
  | .hbm => 142
  | .vmem => 15
  | .smem => 0
  | _ => 0

abbrev hbmTy0_0 (i : Nat) : BufTy := match i % 128 with
  | 0 => ⟨S25000x128, .f32⟩
  | 1 => ⟨S25000x128, .f32⟩
  | 2 => ⟨S400000, .i32⟩
  | 3 => ⟨S400000, .i32⟩
  | 4 => ⟨S400000, .i32⟩
  | 5 => ⟨S200000, .i32⟩
  | 6 => ⟨S200000, .i32⟩
  | 7 => ⟨S5x128x128, .f32⟩
  | 8 => ⟨S128x64, .f32⟩
  | 9 => ⟨S64, .f32⟩
  | 10 => ⟨S2x64x64, .f32⟩
  | 11 => ⟨S2x5, .f32⟩
  | 12 => ⟨S_, .i32⟩
  | 13 => ⟨S400000, .i32⟩
  | 14 => ⟨S400000, .i32⟩
  | 15 => ⟨S400000, .i32⟩
  | 16 => ⟨S_, .i32⟩
  | 17 => ⟨S400000, .i32⟩
  | 18 => ⟨S400000, .i32⟩
  | 19 => ⟨S400000, .i32⟩
  | 20 => ⟨S_, .f32⟩
  | 21 => ⟨S400000, .f32⟩
  | 22 => ⟨S_, .f32⟩
  | 23 => ⟨S125000, .f32⟩
  | 24 => ⟨S400000x1, .i32⟩
  | 25 => ⟨S125000, .f32⟩
  | 26 => ⟨S_, .f32⟩
  | 27 => ⟨S125000, .f32⟩
  | 28 => ⟨S400000x1, .i32⟩
  | 29 => ⟨S125000, .f32⟩
  | 30 => ⟨S_, .f32⟩
  | 31 => ⟨S125000, .f32⟩
  | 32 => ⟨S125000, .i1⟩
  | 33 => ⟨S_, .f32⟩
  | 34 => ⟨S125000, .f32⟩
  | 35 => ⟨S125000, .f32⟩
  | 36 => ⟨S125000, .f32⟩
  | 37 => ⟨S_, .f32⟩
  | 38 => ⟨S_, .f32⟩
  | 39 => ⟨S125000, .f32⟩
  | 40 => ⟨S125000, .f32⟩
  | 41 => ⟨S_, .f32⟩
  | 42 => ⟨S125000, .f32⟩
  | 43 => ⟨S125000, .i1⟩
  | 44 => ⟨S_, .f32⟩
  | 45 => ⟨S125000, .f32⟩
  | 46 => ⟨S125000, .f32⟩
  | 47 => ⟨S125000, .f32⟩
  | 48 => ⟨S_, .f32⟩
  | 49 => ⟨S_, .f32⟩
  | 50 => ⟨S125000, .f32⟩
  | 51 => ⟨S125000, .f32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x128, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000, .f32⟩
  | 70 => ⟨S400000x1, .f32⟩
  | 71 => ⟨S400000x128, .f32⟩
  | 72 => ⟨S400000x128, .f32⟩
  | 73 => ⟨S_, .f32⟩
  | 74 => ⟨S125000x128, .f32⟩
  | 75 => ⟨S400000x1, .i32⟩
  | 76 => ⟨S125000x128, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x128, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000, .f32⟩
  | 95 => ⟨S400000x1, .f32⟩
  | 96 => ⟨S400000x128, .f32⟩
  | 97 => ⟨S400000x128, .f32⟩
  | 98 => ⟨S_, .f32⟩
  | 99 => ⟨S125000x128, .f32⟩
  | 100 => ⟨S400000x1, .i32⟩
  | 101 => ⟨S125000x128, .f32⟩
  | 102 => ⟨S125000x1, .f32⟩
  | 103 => ⟨S125000x128, .f32⟩
  | 104 => ⟨S125000x128, .f32⟩
  | 105 => ⟨S25000x640, .f32⟩
  | 106 => ⟨S125000x1, .f32⟩
  | 107 => ⟨S125000x128, .f32⟩
  | 108 => ⟨S125000x128, .f32⟩
  | 109 => ⟨S25000x640, .f32⟩
  | 110 => ⟨S640x128, .f32⟩
  | 111 => ⟨S1x64, .f32⟩
  | 112 => ⟨S8x64, .f32⟩
  | 113 => ⟨S50000x640, .f32⟩
  | 114 => ⟨S50000x64, .f32⟩
  | 115 => ⟨S25000x64, .f32⟩
  | 116 => ⟨S25000x64, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x64, .f32⟩
  | 126 => ⟨S_, .i32⟩
  | 127 => ⟨S200000, .i32⟩
  | _ => ⟨S25000x128, .f32⟩

abbrev hbmTy0_1 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S200000x64, .f32⟩
  | 7 => ⟨S_, .f32⟩
  | 8 => ⟨S2x8, .f32⟩
  | 9 => ⟨S_, .i32⟩
  | 10 => ⟨S1, .i32⟩
  | 11 => ⟨S2x8, .f32⟩
  | 12 => ⟨S200000x8, .f32⟩
  | 13 => ⟨S200000x5, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | .local _ .vmem, ⟨0, _⟩ => ⟨S2000x640, .f32⟩
  | .local _ .vmem, ⟨1, _⟩ => ⟨S2000x640, .f32⟩
  | .local _ .vmem, ⟨2, _⟩ => ⟨S640x128, .f32⟩
  | .local _ .vmem, ⟨3, _⟩ => ⟨S128x64, .f32⟩
  | .local _ .vmem, ⟨4, _⟩ => ⟨S8x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2x64x64, .f32⟩
  | .local _ .vmem, ⟨12, _⟩ => ⟨S2x8, .f32⟩
  | .local _ .vmem, ⟨13, _⟩ => ⟨S2000x8, .f32⟩
  | .local _ .vmem, ⟨14, _⟩ => ⟨S2000x8, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v24 : Ref sig .tc := ⟨.hbm, 51, rfl⟩
abbrev main_c_9 : Ref sig .tc := ⟨.hbm, 52, rfl⟩
abbrev main_v25 : Ref sig .tc := ⟨.hbm, 53, rfl⟩
abbrev main_v26 : Ref sig .tc := ⟨.hbm, 54, rfl⟩
abbrev main_c_10 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_11 : Ref sig .tc := ⟨.hbm, 61, rfl⟩
abbrev main_v32 : Ref sig .tc := ⟨.hbm, 62, rfl⟩
abbrev main_v33 : Ref sig .tc := ⟨.hbm, 63, rfl⟩
abbrev main_c_12 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_13 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_14 : Ref sig .tc := ⟨.hbm, 77, rfl⟩
abbrev main_v45 : Ref sig .tc := ⟨.hbm, 78, rfl⟩
abbrev main_v46 : Ref sig .tc := ⟨.hbm, 79, rfl⟩
abbrev main_c_15 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_16 : Ref sig .tc := ⟨.hbm, 86, rfl⟩
abbrev main_v52 : Ref sig .tc := ⟨.hbm, 87, rfl⟩
abbrev main_v53 : Ref sig .tc := ⟨.hbm, 88, rfl⟩
abbrev main_c_17 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_18 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_19 : Ref sig .tc := ⟨.hbm, 117, rfl⟩
abbrev main_v80 : Ref sig .tc := ⟨.hbm, 118, rfl⟩
abbrev main_v81 : Ref sig .tc := ⟨.hbm, 119, rfl⟩
abbrev main_c_20 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_21 : Ref sig .tc := ⟨.hbm, 126, rfl⟩
abbrev main_v87 : Ref sig .tc := ⟨.hbm, 127, rfl⟩
abbrev main_v88 : Ref sig .tc := ⟨.hbm, 128, rfl⟩
abbrev main_c_22 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_v94 : Ref sig .tc := ⟨.hbm, 136, rfl⟩
abbrev main_c_24 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S25000x128 : Shape := ⟨2, ![25000, 128]⟩
abbrev S400000 : Shape := ⟨1, ![400000]⟩
abbrev S200000 : Shape := ⟨1, ![200000]⟩
abbrev S5x128x128 : Shape := ⟨3, ![5, 128, 128]⟩
abbrev S128x64 : Shape := ⟨2, ![128, 64]⟩
abbrev S64 : Shape := ⟨1, ![64]⟩
abbrev S2x64x64 : Shape := ⟨3, ![2, 64, 64]⟩
abbrev S2x5 : Shape := ⟨2, ![2, 5]⟩
abbrev S_ : Shape := ⟨0, ![]⟩
abbrev S25000 : Shape := ⟨1, ![25000]⟩
abbrev S400000x1 : Shape := ⟨2, ![400000, 1]⟩
abbrev S1x128x128 : Shape := ⟨3, ![1, 128, 128]⟩
abbrev S128x128 : Shape := ⟨2, ![128, 128]⟩
abbrev S400000x128 : Shape := ⟨2, ![400000, 128]⟩
abbrev S25000x1 : Shape := ⟨2, ![25000, 1]⟩
abbrev S25000x64 : Shape := ⟨2, ![25000, 64]⟩
abbrev S1x64 : Shape := ⟨2, ![1, 64]⟩
abbrev S200000x1 : Shape := ⟨2, ![200000, 1]⟩
abbrev S200000x64 : Shape := ⟨2, ![200000, 64]⟩
abbrev S1x64x64 : Shape := ⟨3, ![1, 64, 64]⟩
abbrev S64x64 : Shape := ⟨2, ![64, 64]⟩
abbrev S200000x2 : Shape := ⟨2, ![200000, 2]⟩
abbrev S200000x5 : Shape := ⟨2, ![200000, 5]⟩

abbrev nBuf : Space → Nat
  | .hbm => 604
  | .vmem => 0
  | .smem => 0
  | _ => 0

abbrev hbmTy0_0 (i : Nat) : BufTy := match i % 128 with
  | 0 => ⟨S25000x128, .f32⟩
  | 1 => ⟨S25000x128, .f32⟩
  | 2 => ⟨S400000, .i32⟩
  | 3 => ⟨S400000, .i32⟩
  | 4 => ⟨S400000, .i32⟩
  | 5 => ⟨S200000, .i32⟩
  | 6 => ⟨S200000, .i32⟩
  | 7 => ⟨S5x128x128, .f32⟩
  | 8 => ⟨S128x64, .f32⟩
  | 9 => ⟨S64, .f32⟩
  | 10 => ⟨S2x64x64, .f32⟩
  | 11 => ⟨S2x5, .f32⟩
  | 12 => ⟨S_, .f32⟩
  | 13 => ⟨S25000x128, .f32⟩
  | 14 => ⟨S_, .f32⟩
  | 15 => ⟨S25000x128, .f32⟩
  | 16 => ⟨S_, .i32⟩
  | 17 => ⟨S400000, .i32⟩
  | 18 => ⟨S400000, .i1⟩
  | 19 => ⟨S400000, .f32⟩
  | 20 => ⟨S_, .f32⟩
  | 21 => ⟨S25000, .f32⟩
  | 22 => ⟨S400000x1, .i32⟩
  | 23 => ⟨S25000, .f32⟩
  | 24 => ⟨S_, .f32⟩
  | 25 => ⟨S25000, .f32⟩
  | 26 => ⟨S400000x1, .i32⟩
  | 27 => ⟨S25000, .f32⟩
  | 28 => ⟨S_, .f32⟩
  | 29 => ⟨S25000, .f32⟩
  | 30 => ⟨S25000, .i1⟩
  | 31 => ⟨S_, .f32⟩
  | 32 => ⟨S25000, .f32⟩
  | 33 => ⟨S25000, .f32⟩
  | 34 => ⟨S25000, .f32⟩
  | 35 => ⟨S_, .f32⟩
  | 36 => ⟨S25000, .f32⟩
  | 37 => ⟨S25000, .f32⟩
  | 38 => ⟨S_, .f32⟩
  | 39 => ⟨S_, .f32⟩
  | 40 => ⟨S25000, .f32⟩
  | 41 => ⟨S25000, .f32⟩
  | 42 => ⟨S_, .f32⟩
  | 43 => ⟨S25000, .f32⟩
  | 44 => ⟨S25000, .i1⟩
  | 45 => ⟨S_, .f32⟩
  | 46 => ⟨S25000, .f32⟩
  | 47 => ⟨S25000, .f32⟩
  | 48 => ⟨S25000, .f32⟩
  | 49 => ⟨S_, .f32⟩
  | 50 => ⟨S25000, .f32⟩
  | 51 => ⟨S25000, .f32⟩
  | 52 => ⟨S_, .f32⟩
  | 53 => ⟨S_, .f32⟩
  | 54 => ⟨S25000, .f32⟩
  | 55 => ⟨S25000, .f32⟩
  | 56 => ⟨S1x128x128, .f32⟩
  | 57 => ⟨S128x128, .f32⟩
  | 58 => ⟨S25000x128, .f32⟩
  | 59 => ⟨S1x128x128, .f32⟩
  | 60 => ⟨S128x128, .f32⟩
  | 61 => ⟨S25000x128, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000, .f32⟩
  | 80 => ⟨S400000, .f32⟩
  | 81 => ⟨S400000x1, .f32⟩
  | 82 => ⟨S400000x128, .f32⟩
  | 83 => ⟨S400000x128, .f32⟩
  | 84 => ⟨S_, .f32⟩
  | 85 => ⟨S25000x128, .f32⟩
  | 86 => ⟨S400000x1, .i32⟩
  | 87 => ⟨S25000x128, .f32⟩
  | 88 => ⟨S25000x1, .f32⟩
  | 89 => ⟨S25000x128, .f32⟩
  | 90 => ⟨S25000x128, .f32⟩
  | 91 => ⟨S25000x128, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x128, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000, .f32⟩
  | 110 => ⟨S400000, .f32⟩
  | 111 => ⟨S400000x1, .f32⟩
  | 112 => ⟨S400000x128, .f32⟩
  | 113 => ⟨S400000x128, .f32⟩
  | 114 => ⟨S_, .f32⟩
  | 115 => ⟨S25000x128, .f32⟩
  | 116 => ⟨S400000x1, .i32⟩
  | 117 => ⟨S25000x128, .f32⟩
  | 118 => ⟨S25000x1, .f32⟩
  | 119 => ⟨S25000x128, .f32⟩
  | 120 => ⟨S25000x128, .f32⟩
  | 121 => ⟨S25000x128, .f32⟩
  | 122 => ⟨S_, .i32⟩
  | 123 => ⟨S400000, .i32⟩
  | 124 => ⟨S400000, .i1⟩
  | 125 => ⟨S400000, .f32⟩
  | 126 => ⟨S_, .f32⟩
  | 127 => ⟨S25000, .f32⟩
  | _ => ⟨S25000x128, .f32⟩

abbrev hbmTy0_1 (i : Nat) : BufTy := match i % 128 with
  | 0 => ⟨S400000x1, .i32⟩
  | 1 => ⟨S25000, .f32⟩
  | 2 => ⟨S_, .f32⟩
  | 3 => ⟨S25000, .f32⟩
  | 4 => ⟨S400000x1, .i32⟩
  | 5 => ⟨S25000, .f32⟩
  | 6 => ⟨S_, .f32⟩
  | 7 => ⟨S25000, .f32⟩
  | 8 => ⟨S25000, .i1⟩
  | 9 => ⟨S_, .f32⟩
  | 10 => ⟨S25000, .f32⟩
  | 11 => ⟨S25000, .f32⟩
  | 12 => ⟨S25000, .f32⟩
  | 13 => ⟨S_, .f32⟩
  | 14 => ⟨S25000, .f32⟩
  | 15 => ⟨S25000, .f32⟩
  | 16 => ⟨S_, .f32⟩
  | 17 => ⟨S_, .f32⟩
  | 18 => ⟨S25000, .f32⟩
  | 19 => ⟨S25000, .f32⟩
  | 20 => ⟨S_, .f32⟩
  | 21 => ⟨S25000, .f32⟩
  | 22 => ⟨S25000, .i1⟩
  | 23 => ⟨S_, .f32⟩
  | 24 => ⟨S25000, .f32⟩
  | 25 => ⟨S25000, .f32⟩
  | 26 => ⟨S25000, .f32⟩
  | 27 => ⟨S_, .f32⟩
  | 28 => ⟨S25000, .f32⟩
  | 29 => ⟨S25000, .f32⟩
  | 30 => ⟨S_, .f32⟩
  | 31 => ⟨S_, .f32⟩
  | 32 => ⟨S25000, .f32⟩
  | 33 => ⟨S25000, .f32⟩
  | 34 => ⟨S1x128x128, .f32⟩
  | 35 => ⟨S128x128, .f32⟩
  | 36 => ⟨S25000x128, .f32⟩
  | 37 => ⟨S1x128x128, .f32⟩
  | 38 => ⟨S128x128, .f32⟩
  | 39 => ⟨S25000x128, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x128, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000, .f32⟩
  | 58 => ⟨S400000, .f32⟩
  | 59 => ⟨S400000x1, .f32⟩
  | 60 => ⟨S400000x128, .f32⟩
  | 61 => ⟨S400000x128, .f32⟩
  | 62 => ⟨S_, .f32⟩
  | 63 => ⟨S25000x128, .f32⟩
  | 64 => ⟨S400000x1, .i32⟩
  | 65 => ⟨S25000x128, .f32⟩
  | 66 => ⟨S25000x1, .f32⟩
  | 67 => ⟨S25000x128, .f32⟩
  | 68 => ⟨S25000x128, .f32⟩
  | 69 => ⟨S25000x128, .f32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x128, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000, .f32⟩
  | 88 => ⟨S400000, .f32⟩
  | 89 => ⟨S400000x1, .f32⟩
  | 90 => ⟨S400000x128, .f32⟩
  | 91 => ⟨S400000x128, .f32⟩
  | 92 => ⟨S_, .f32⟩
  | 93 => ⟨S25000x128, .f32⟩
  | 94 => ⟨S400000x1, .i32⟩
  | 95 => ⟨S25000x128, .f32⟩
  | 96 => ⟨S25000x1, .f32⟩
  | 97 => ⟨S25000x128, .f32⟩
  | 98 => ⟨S25000x128, .f32⟩
  | 99 => ⟨S25000x128, .f32⟩
  | 100 => ⟨S_, .i32⟩
  | 101 => ⟨S400000, .i32⟩
  | 102 => ⟨S400000, .i1⟩
  | 103 => ⟨S400000, .f32⟩
  | 104 => ⟨S_, .f32⟩
  | 105 => ⟨S25000, .f32⟩
  | 106 => ⟨S400000x1, .i32⟩
  | 107 => ⟨S25000, .f32⟩
  | 108 => ⟨S_, .f32⟩
  | 109 => ⟨S25000, .f32⟩
  | 110 => ⟨S400000x1, .i32⟩
  | 111 => ⟨S25000, .f32⟩
  | 112 => ⟨S_, .f32⟩
  | 113 => ⟨S25000, .f32⟩
  | 114 => ⟨S25000, .i1⟩
  | 115 => ⟨S_, .f32⟩
  | 116 => ⟨S25000, .f32⟩
  | 117 => ⟨S25000, .f32⟩
  | 118 => ⟨S25000, .f32⟩
  | 119 => ⟨S_, .f32⟩
  | 120 => ⟨S25000, .f32⟩
  | 121 => ⟨S25000, .f32⟩
  | 122 => ⟨S_, .f32⟩
  | 123 => ⟨S_, .f32⟩
  | 124 => ⟨S25000, .f32⟩
  | 125 => ⟨S25000, .f32⟩
  | 126 => ⟨S_, .f32⟩
  | 127 => ⟨S25000, .f32⟩
  | _ => ⟨S25000x128, .f32⟩

abbrev hbmTy0_2 (i : Nat) : BufTy := match i % 128 with
  | 0 => ⟨S25000, .i1⟩
  | 1 => ⟨S_, .f32⟩
  | 2 => ⟨S25000, .f32⟩
  | 3 => ⟨S25000, .f32⟩
  | 4 => ⟨S25000, .f32⟩
  | 5 => ⟨S_, .f32⟩
  | 6 => ⟨S25000, .f32⟩
  | 7 => ⟨S25000, .f32⟩
  | 8 => ⟨S_, .f32⟩
  | 9 => ⟨S_, .f32⟩
  | 10 => ⟨S25000, .f32⟩
  | 11 => ⟨S25000, .f32⟩
  | 12 => ⟨S1x128x128, .f32⟩
  | 13 => ⟨S128x128, .f32⟩
  | 14 => ⟨S25000x128, .f32⟩
  | 15 => ⟨S1x128x128, .f32⟩
  | 16 => ⟨S128x128, .f32⟩
  | 17 => ⟨S25000x128, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000, .f32⟩
  | 36 => ⟨S400000, .f32⟩
  | 37 => ⟨S400000x1, .f32⟩
  | 38 => ⟨S400000x128, .f32⟩
  | 39 => ⟨S400000x128, .f32⟩
  | 40 => ⟨S_, .f32⟩
  | 41 => ⟨S25000x128, .f32⟩
  | 42 => ⟨S400000x1, .i32⟩
  | 43 => ⟨S25000x128, .f32⟩
  | 44 => ⟨S25000x1, .f32⟩
  | 45 => ⟨S25000x128, .f32⟩
  | 46 => ⟨S25000x128, .f32⟩
  | 47 => ⟨S25000x128, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x128, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000, .f32⟩
  | 66 => ⟨S400000, .f32⟩
  | 67 => ⟨S400000x1, .f32⟩
  | 68 => ⟨S400000x128, .f32⟩
  | 69 => ⟨S400000x128, .f32⟩
  | 70 => ⟨S_, .f32⟩
  | 71 => ⟨S25000x128, .f32⟩
  | 72 => ⟨S400000x1, .i32⟩
  | 73 => ⟨S25000x128, .f32⟩
  | 74 => ⟨S25000x1, .f32⟩
  | 75 => ⟨S25000x128, .f32⟩
  | 76 => ⟨S25000x128, .f32⟩
  | 77 => ⟨S25000x128, .f32⟩
  | 78 => ⟨S_, .i32⟩
  | 79 => ⟨S400000, .i32⟩
  | 80 => ⟨S400000, .i1⟩
  | 81 => ⟨S400000, .f32⟩
  | 82 => ⟨S_, .f32⟩
  | 83 => ⟨S25000, .f32⟩
  | 84 => ⟨S400000x1, .i32⟩
  | 85 => ⟨S25000, .f32⟩
  | 86 => ⟨S_, .f32⟩
  | 87 => ⟨S25000, .f32⟩
  | 88 => ⟨S400000x1, .i32⟩
  | 89 => ⟨S25000, .f32⟩
  | 90 => ⟨S_, .f32⟩
  | 91 => ⟨S25000, .f32⟩
  | 92 => ⟨S25000, .i1⟩
  | 93 => ⟨S_, .f32⟩
  | 94 => ⟨S25000, .f32⟩
  | 95 => ⟨S25000, .f32⟩
  | 96 => ⟨S25000, .f32⟩
  | 97 => ⟨S_, .f32⟩
  | 98 => ⟨S25000, .f32⟩
  | 99 => ⟨S25000, .f32⟩
  | 100 => ⟨S_, .f32⟩
  | 101 => ⟨S_, .f32⟩
  | 102 => ⟨S25000, .f32⟩
  | 103 => ⟨S25000, .f32⟩
  | 104 => ⟨S_, .f32⟩
  | 105 => ⟨S25000, .f32⟩
  | 106 => ⟨S25000, .i1⟩
  | 107 => ⟨S_, .f32⟩
  | 108 => ⟨S25000, .f32⟩
  | 109 => ⟨S25000, .f32⟩
  | 110 => ⟨S25000, .f32⟩
  | 111 => ⟨S_, .f32⟩
  | 112 => ⟨S25000, .f32⟩
  | 113 => ⟨S25000, .f32⟩
  | 114 => ⟨S_, .f32⟩
  | 115 => ⟨S_, .f32⟩
  | 116 => ⟨S25000, .f32⟩
  | 117 => ⟨S25000, .f32⟩
  | 118 => ⟨S1x128x128, .f32⟩
  | 119 => ⟨S128x128, .f32⟩
  | 120 => ⟨S25000x128, .f32⟩
  | 121 => ⟨S1x128x128, .f32⟩
  | 122 => ⟨S128x128, .f32⟩
  | 123 => ⟨S25000x128, .f32⟩
  | 124 => ⟨S_, .i32⟩
  | 125 => ⟨S400000, .i32⟩
  | 126 => ⟨S400000, .i1⟩
  | 127 => ⟨S_, .i32⟩
  | _ => ⟨S25000x128, .f32⟩

abbrev hbmTy0_3 (i : Nat) : BufTy := match i % 128 with
  | 0 => ⟨S400000, .i32⟩
  | 1 => ⟨S400000, .i32⟩
  | 2 => ⟨S400000, .i32⟩
  | 3 => ⟨S400000x1, .i32⟩
  | 4 => ⟨S400000x128, .f32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000, .f32⟩
  | 14 => ⟨S400000, .f32⟩
  | 15 => ⟨S400000x1, .f32⟩
  | 16 => ⟨S400000x128, .f32⟩
  | 17 => ⟨S400000x128, .f32⟩
  | 18 => ⟨S_, .f32⟩
  | 19 => ⟨S25000x128, .f32⟩
  | 20 => ⟨S400000x1, .i32⟩
  | 21 => ⟨S25000x128, .f32⟩
  | 22 => ⟨S25000x1, .f32⟩
  | 23 => ⟨S25000x128, .f32⟩
  | 24 => ⟨S25000x128, .f32⟩
  | 25 => ⟨S25000x128, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000, .f32⟩
  | 44 => ⟨S400000, .f32⟩
  | 45 => ⟨S400000x1, .f32⟩
  | 46 => ⟨S400000x128, .f32⟩
  | 47 => ⟨S400000x128, .f32⟩
  | 48 => ⟨S_, .f32⟩
  | 49 => ⟨S25000x128, .f32⟩
  | 50 => ⟨S400000x1, .i32⟩
  | 51 => ⟨S25000x128, .f32⟩
  | 52 => ⟨S25000x1, .f32⟩
  | 53 => ⟨S25000x128, .f32⟩
  | 54 => ⟨S25000x128, .f32⟩
  | 55 => ⟨S25000x128, .f32⟩
  | 56 => ⟨S_, .i32⟩
  | 57 => ⟨S400000, .i32⟩
  | 58 => ⟨S400000, .i1⟩
  | 59 => ⟨S400000, .f32⟩
  | 60 => ⟨S_, .f32⟩
  | 61 => ⟨S25000, .f32⟩
  | 62 => ⟨S400000x1, .i32⟩
  | 63 => ⟨S25000, .f32⟩
  | 64 => ⟨S_, .f32⟩
  | 65 => ⟨S25000, .f32⟩
  | 66 => ⟨S400000x1, .i32⟩
  | 67 => ⟨S25000, .f32⟩
  | 68 => ⟨S_, .f32⟩
  | 69 => ⟨S25000, .f32⟩
  | 70 => ⟨S25000, .i1⟩
  | 71 => ⟨S_, .f32⟩
  | 72 => ⟨S25000, .f32⟩
  | 73 => ⟨S25000, .f32⟩
  | 74 => ⟨S25000, .f32⟩
  | 75 => ⟨S_, .f32⟩
  | 76 => ⟨S25000, .f32⟩
  | 77 => ⟨S25000, .f32⟩
  | 78 => ⟨S_, .f32⟩
  | 79 => ⟨S_, .f32⟩
  | 80 => ⟨S25000, .f32⟩
  | 81 => ⟨S25000, .f32⟩
  | 82 => ⟨S_, .f32⟩
  | 83 => ⟨S25000, .f32⟩
  | 84 => ⟨S25000, .i1⟩
  | 85 => ⟨S_, .f32⟩
  | 86 => ⟨S25000, .f32⟩
  | 87 => ⟨S25000, .f32⟩
  | 88 => ⟨S25000, .f32⟩
  | 89 => ⟨S_, .f32⟩
  | 90 => ⟨S25000, .f32⟩
  | 91 => ⟨S25000, .f32⟩
  | 92 => ⟨S_, .f32⟩
  | 93 => ⟨S_, .f32⟩
  | 94 => ⟨S25000, .f32⟩
  | 95 => ⟨S25000, .f32⟩
  | 96 => ⟨S1x128x128, .f32⟩
  | 97 => ⟨S128x128, .f32⟩
  | 98 => ⟨S25000x128, .f32⟩
  | 99 => ⟨S1x128x128, .f32⟩
  | 100 => ⟨S128x128, .f32⟩
  | 101 => ⟨S25000x128, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x128, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000, .f32⟩
  | 120 => ⟨S400000, .f32⟩
  | 121 => ⟨S400000x1, .f32⟩
  | 122 => ⟨S400000x128, .f32⟩
  | 123 => ⟨S400000x128, .f32⟩
  | 124 => ⟨S_, .f32⟩
  | 125 => ⟨S25000x128, .f32⟩
  | 126 => ⟨S400000x1, .i32⟩
  | 127 => ⟨S25000x128, .f32⟩
  | _ => ⟨S25000x128, .f32⟩

abbrev hbmTy0_4 (i : Nat) : BufTy := match i % 128 with
  | 0 => ⟨S25000x1, .f32⟩
  | 1 => ⟨S25000x128, .f32⟩
  | 2 => ⟨S25000x128, .f32⟩
  | 3 => ⟨S25000x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x128, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000, .f32⟩
  | 22 => ⟨S400000, .f32⟩
  | 23 => ⟨S400000x1, .f32⟩
  | 24 => ⟨S400000x128, .f32⟩
  | 25 => ⟨S400000x128, .f32⟩
  | 26 => ⟨S_, .f32⟩
  | 27 => ⟨S25000x128, .f32⟩
  | 28 => ⟨S400000x1, .i32⟩
  | 29 => ⟨S25000x128, .f32⟩
  | 30 => ⟨S25000x1, .f32⟩
  | 31 => ⟨S25000x128, .f32⟩
  | 32 => ⟨S25000x128, .f32⟩
  | 33 => ⟨S25000x128, .f32⟩
  | 34 => ⟨S_, .f32⟩
  | 35 => ⟨S_, .f32⟩
  | 36 => ⟨S25000x128, .f32⟩
  | 37 => ⟨S25000x128, .i1⟩
  | 38 => ⟨S_, .f32⟩
  | 39 => ⟨S25000x128, .f32⟩
  | 40 => ⟨S25000x128, .f32⟩
  | 41 => ⟨S25000x128, .f32⟩
  | 42 => ⟨S25000x64, .f32⟩
  | 43 => ⟨S1x64, .f32⟩
  | 44 => ⟨S25000x64, .f32⟩
  | 45 => ⟨S25000x64, .f32⟩
  | 46 => ⟨S_, .f32⟩
  | 47 => ⟨S_, .f32⟩
  | 48 => ⟨S25000x128, .f32⟩
  | 49 => ⟨S25000x128, .i1⟩
  | 50 => ⟨S_, .f32⟩
  | 51 => ⟨S25000x128, .f32⟩
  | 52 => ⟨S25000x128, .f32⟩
  | 53 => ⟨S25000x128, .f32⟩
  | 54 => ⟨S25000x64, .f32⟩
  | 55 => ⟨S1x64, .f32⟩
  | 56 => ⟨S25000x64, .f32⟩
  | 57 => ⟨S25000x64, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S200000x64, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x64, .f32⟩
  | 76 => ⟨S1x64x64, .f32⟩
  | 77 => ⟨S64x64, .f32⟩
  | 78 => ⟨S200000x64, .f32⟩
  | 79 => ⟨S200000x64, .f32⟩
  | 80 => ⟨S_, .f32⟩
  | 81 => ⟨S200000, .f32⟩
  | 82 => ⟨S1x64x64, .f32⟩
  | 83 => ⟨S64x64, .f32⟩
  | 84 => ⟨S200000x64, .f32⟩
  | 85 => ⟨S200000x64, .f32⟩
  | 86 => ⟨S_, .f32⟩
  | 87 => ⟨S200000, .f32⟩
  | 88 => ⟨S200000x1, .f32⟩
  | 89 => ⟨S200000x1, .f32⟩
  | 90 => ⟨S200000x2, .f32⟩
  | 91 => ⟨S200000x5, .f32⟩
  | _ => ⟨S25000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S25000x128, .f32⟩

abbrev bufTy : (tb : Table) → Fin (tcTables nBuf tb) → BufTy
  | .hbm, ⟨i, _⟩ => hbmTy i
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_5 : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_cst_8 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_9 : Ref sig .tc := ⟨.hbm, 49, rfl⟩
abbrev main_v24 : Ref sig .tc := ⟨.hbm, 50, rfl⟩
abbrev main_v25 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_11 : Ref sig .tc := ⟨.hbm, 62, rfl⟩
abbrev main_v33 : Ref sig .tc := ⟨.hbm, 63, rfl⟩
abbrev main_v34 : Ref sig .tc := ⟨.hbm, 64, rfl⟩
abbrev main_c_12 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_13 : Ref sig .tc := ⟨.hbm, 71, rfl⟩
abbrev main_v40 : Ref sig .tc := ⟨.hbm, 72, rfl⟩
abbrev main_v41 : Ref sig .tc := ⟨.hbm, 73, rfl⟩
abbrev main_c_14 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_15 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_16 : Ref sig .tc := ⟨.hbm, 92, rfl⟩
abbrev main_v58 : Ref sig .tc := ⟨.hbm, 93, rfl⟩
abbrev main_v59 : Ref sig .tc := ⟨.hbm, 94, rfl⟩
abbrev main_c_17 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_18 : Ref sig .tc := ⟨.hbm, 101, rfl⟩
abbrev main_v65 : Ref sig .tc := ⟨.hbm, 102, rfl⟩
abbrev main_v66 : Ref sig .tc := ⟨.hbm, 103, rfl⟩
abbrev main_c_19 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_20 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_21 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_22 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_24 : Ref sig .tc := ⟨.hbm, 134, rfl⟩
abbrev main_v92 : Ref sig .tc := ⟨.hbm, 135, rfl⟩
abbrev main_v93 : Ref sig .tc := ⟨.hbm, 136, rfl⟩
abbrev main_cst_25 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_26 : Ref sig .tc := ⟨.hbm, 141, rfl⟩
abbrev main_v97 : Ref sig .tc := ⟨.hbm, 142, rfl⟩
abbrev main_v98 : Ref sig .tc := ⟨.hbm, 143, rfl⟩
abbrev main_cst_27 : Ref sig .tc := ⟨.hbm, 144, rfl⟩
abbrev main_call2_v0 : Ref sig .tc := ⟨.hbm, 145, rfl⟩
abbrev main_call2_v1 : Ref sig .tc := ⟨.hbm, 146, rfl⟩
abbrev main_v99 : Ref sig .tc := ⟨.hbm, 147, rfl⟩
abbrev main_cst_28 : Ref sig .tc := ⟨.hbm, 148, rfl⟩
abbrev main_v100 : Ref sig .tc := ⟨.hbm, 149, rfl⟩
abbrev main_v101 : Ref sig .tc := ⟨.hbm, 150, rfl⟩
abbrev main_cst_29 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_30 : Ref sig .tc := ⟨.hbm, 155, rfl⟩
abbrev main_v105 : Ref sig .tc := ⟨.hbm, 156, rfl⟩
abbrev main_v106 : Ref sig .tc := ⟨.hbm, 157, rfl⟩
abbrev main_cst_31 : Ref sig .tc := ⟨.hbm, 158, rfl⟩
abbrev main_call3_v0 : Ref sig .tc := ⟨.hbm, 159, rfl⟩
abbrev main_call3_v1 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_32 : Ref sig .tc := ⟨.hbm, 168, rfl⟩
abbrev main_v114 : Ref sig .tc := ⟨.hbm, 169, rfl⟩
abbrev main_v115 : Ref sig .tc := ⟨.hbm, 170, rfl⟩
abbrev main_c_33 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_34 : Ref sig .tc := ⟨.hbm, 177, rfl⟩
abbrev main_v121 : Ref sig .tc := ⟨.hbm, 178, rfl⟩
abbrev main_v122 : Ref sig .tc := ⟨.hbm, 179, rfl⟩
abbrev main_c_35 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_36 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_c_37 : Ref sig .tc := ⟨.hbm, 198, rfl⟩
abbrev main_v139 : Ref sig .tc := ⟨.hbm, 199, rfl⟩
abbrev main_v140 : Ref sig .tc := ⟨.hbm, 200, rfl⟩
abbrev main_c_38 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_c_39 : Ref sig .tc := ⟨.hbm, 207, rfl⟩
abbrev main_v146 : Ref sig .tc := ⟨.hbm, 208, rfl⟩
abbrev main_v147 : Ref sig .tc := ⟨.hbm, 209, rfl⟩
abbrev main_c_40 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_41 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_c_42 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_43 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_44 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_cst_45 : Ref sig .tc := ⟨.hbm, 240, rfl⟩
abbrev main_v173 : Ref sig .tc := ⟨.hbm, 241, rfl⟩
abbrev main_v174 : Ref sig .tc := ⟨.hbm, 242, rfl⟩
abbrev main_cst_46 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_47 : Ref sig .tc := ⟨.hbm, 247, rfl⟩
abbrev main_v178 : Ref sig .tc := ⟨.hbm, 248, rfl⟩
abbrev main_v179 : Ref sig .tc := ⟨.hbm, 249, rfl⟩
abbrev main_cst_48 : Ref sig .tc := ⟨.hbm, 250, rfl⟩
abbrev main_call4_v0 : Ref sig .tc := ⟨.hbm, 251, rfl⟩
abbrev main_call4_v1 : Ref sig .tc := ⟨.hbm, 252, rfl⟩
abbrev main_v180 : Ref sig .tc := ⟨.hbm, 253, rfl⟩
abbrev main_cst_49 : Ref sig .tc := ⟨.hbm, 254, rfl⟩
abbrev main_v181 : Ref sig .tc := ⟨.hbm, 255, rfl⟩
abbrev main_v182 : Ref sig .tc := ⟨.hbm, 256, rfl⟩
abbrev main_cst_50 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_51 : Ref sig .tc := ⟨.hbm, 261, rfl⟩
abbrev main_v186 : Ref sig .tc := ⟨.hbm, 262, rfl⟩
abbrev main_v187 : Ref sig .tc := ⟨.hbm, 263, rfl⟩
abbrev main_cst_52 : Ref sig .tc := ⟨.hbm, 264, rfl⟩
abbrev main_call5_v0 : Ref sig .tc := ⟨.hbm, 265, rfl⟩
abbrev main_call5_v1 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_c_53 : Ref sig .tc := ⟨.hbm, 274, rfl⟩
abbrev main_v195 : Ref sig .tc := ⟨.hbm, 275, rfl⟩
abbrev main_v196 : Ref sig .tc := ⟨.hbm, 276, rfl⟩
abbrev main_c_54 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_c_55 : Ref sig .tc := ⟨.hbm, 283, rfl⟩
abbrev main_v202 : Ref sig .tc := ⟨.hbm, 284, rfl⟩
abbrev main_v203 : Ref sig .tc := ⟨.hbm, 285, rfl⟩
abbrev main_c_56 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_cst_57 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_c_58 : Ref sig .tc := ⟨.hbm, 304, rfl⟩
abbrev main_v220 : Ref sig .tc := ⟨.hbm, 305, rfl⟩
abbrev main_v221 : Ref sig .tc := ⟨.hbm, 306, rfl⟩
abbrev main_c_59 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_c_60 : Ref sig .tc := ⟨.hbm, 313, rfl⟩
abbrev main_v227 : Ref sig .tc := ⟨.hbm, 314, rfl⟩
abbrev main_v228 : Ref sig .tc := ⟨.hbm, 315, rfl⟩
abbrev main_c_61 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_cst_62 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_c_63 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_cst_64 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_cst_65 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_cst_66 : Ref sig .tc := ⟨.hbm, 346, rfl⟩
abbrev main_v254 : Ref sig .tc := ⟨.hbm, 347, rfl⟩
abbrev main_v255 : Ref sig .tc := ⟨.hbm, 348, rfl⟩
abbrev main_cst_67 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_cst_68 : Ref sig .tc := ⟨.hbm, 353, rfl⟩
abbrev main_v259 : Ref sig .tc := ⟨.hbm, 354, rfl⟩
abbrev main_v260 : Ref sig .tc := ⟨.hbm, 355, rfl⟩
abbrev main_cst_69 : Ref sig .tc := ⟨.hbm, 356, rfl⟩
abbrev main_call6_v0 : Ref sig .tc := ⟨.hbm, 357, rfl⟩
abbrev main_call6_v1 : Ref sig .tc := ⟨.hbm, 358, rfl⟩
abbrev main_v261 : Ref sig .tc := ⟨.hbm, 359, rfl⟩
abbrev main_cst_70 : Ref sig .tc := ⟨.hbm, 360, rfl⟩
abbrev main_v262 : Ref sig .tc := ⟨.hbm, 361, rfl⟩
abbrev main_v263 : Ref sig .tc := ⟨.hbm, 362, rfl⟩
abbrev main_cst_71 : Ref sig .tc := ⟨.hbm, 363, rfl⟩
abbrev main_v264 : Ref sig .tc := ⟨.hbm, 364, rfl⟩
abbrev main_v265 : Ref sig .tc := ⟨.hbm, 365, rfl⟩
abbrev main_v266 : Ref sig .tc := ⟨.hbm, 366, rfl⟩
abbrev main_cst_72 : Ref sig .tc := ⟨.hbm, 367, rfl⟩
abbrev main_v267 : Ref sig .tc := ⟨.hbm, 368, rfl⟩
abbrev main_v268 : Ref sig .tc := ⟨.hbm, 369, rfl⟩
abbrev main_cst_73 : Ref sig .tc := ⟨.hbm, 370, rfl⟩
abbrev main_call7_v0 : Ref sig .tc := ⟨.hbm, 371, rfl⟩
abbrev main_call7_v1 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_c_74 : Ref sig .tc := ⟨.hbm, 380, rfl⟩
abbrev main_v276 : Ref sig .tc := ⟨.hbm, 381, rfl⟩
abbrev main_v277 : Ref sig .tc := ⟨.hbm, 382, rfl⟩
abbrev main_c_75 : Ref sig .tc := ⟨.hbm, 383, rfl⟩
abbrev main_v278 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_v282 : Ref sig .tc := ⟨.hbm, 388, rfl⟩
abbrev main_c_76 : Ref sig .tc := ⟨.hbm, 389, rfl⟩
abbrev main_v283 : Ref sig .tc := ⟨.hbm, 390, rfl⟩
abbrev main_v284 : Ref sig .tc := ⟨.hbm, 391, rfl⟩
abbrev main_c_77 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_cst_78 : Ref sig .tc := ⟨.hbm, 402, rfl⟩
abbrev main_v294 : Ref sig .tc := ⟨.hbm, 403, rfl⟩
abbrev main_v295 : Ref sig .tc := ⟨.hbm, 404, rfl⟩
abbrev main_v296 : Ref sig .tc := ⟨.hbm, 405, rfl⟩
abbrev main_v297 : Ref sig .tc := ⟨.hbm, 406, rfl⟩
abbrev main_v298 : Ref sig .tc := ⟨.hbm, 407, rfl⟩
abbrev main_v299 : Ref sig .tc := ⟨.hbm, 408, rfl⟩
abbrev main_v300 : Ref sig .tc := ⟨.hbm, 409, rfl⟩
abbrev main_c_79 : Ref sig .tc := ⟨.hbm, 410, rfl⟩
abbrev main_v301 : Ref sig .tc := ⟨.hbm, 411, rfl⟩
abbrev main_v302 : Ref sig .tc := ⟨.hbm, 412, rfl⟩
abbrev main_c_80 : Ref sig .tc := ⟨.hbm, 413, rfl⟩
abbrev main_v303 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_v307 : Ref sig .tc := ⟨.hbm, 418, rfl⟩
abbrev main_c_81 : Ref sig .tc := ⟨.hbm, 419, rfl⟩
abbrev main_v308 : Ref sig .tc := ⟨.hbm, 420, rfl⟩
abbrev main_v309 : Ref sig .tc := ⟨.hbm, 421, rfl⟩
abbrev main_c_82 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_v313 : Ref sig .tc := ⟨.hbm, 426, rfl⟩
abbrev main_v314 : Ref sig .tc := ⟨.hbm, 427, rfl⟩
abbrev main_v315 : Ref sig .tc := ⟨.hbm, 428, rfl⟩
abbrev main_v316 : Ref sig .tc := ⟨.hbm, 429, rfl⟩
abbrev main_v317 : Ref sig .tc := ⟨.hbm, 430, rfl⟩
abbrev main_v318 : Ref sig .tc := ⟨.hbm, 431, rfl⟩
abbrev main_cst_83 : Ref sig .tc := ⟨.hbm, 432, rfl⟩
abbrev main_v319 : Ref sig .tc := ⟨.hbm, 433, rfl⟩
abbrev main_v320 : Ref sig .tc := ⟨.hbm, 434, rfl⟩
abbrev main_v321 : Ref sig .tc := ⟨.hbm, 435, rfl⟩
abbrev main_v322 : Ref sig .tc := ⟨.hbm, 436, rfl⟩
abbrev main_v323 : Ref sig .tc := ⟨.hbm, 437, rfl⟩
abbrev main_v324 : Ref sig .tc := ⟨.hbm, 438, rfl⟩
abbrev main_v325 : Ref sig .tc := ⟨.hbm, 439, rfl⟩
abbrev main_c_84 : Ref sig .tc := ⟨.hbm, 440, rfl⟩
abbrev main_v326 : Ref sig .tc := ⟨.hbm, 441, rfl⟩
abbrev main_v327 : Ref sig .tc := ⟨.hbm, 442, rfl⟩
abbrev main_v328 : Ref sig .tc := ⟨.hbm, 443, rfl⟩
abbrev main_cst_85 : Ref sig .tc := ⟨.hbm, 444, rfl⟩
abbrev main_v329 : Ref sig .tc := ⟨.hbm, 445, rfl⟩
abbrev main_v330 : Ref sig .tc := ⟨.hbm, 446, rfl⟩
abbrev main_v331 : Ref sig .tc := ⟨.hbm, 447, rfl⟩
abbrev main_cst_86 : Ref sig .tc := ⟨.hbm, 448, rfl⟩
abbrev main_v332 : Ref sig .tc := ⟨.hbm, 449, rfl⟩
abbrev main_v333 : Ref sig .tc := ⟨.hbm, 450, rfl⟩
abbrev main_v334 : Ref sig .tc := ⟨.hbm, 451, rfl⟩
abbrev main_cst_87 : Ref sig .tc := ⟨.hbm, 452, rfl⟩
abbrev main_v335 : Ref sig .tc := ⟨.hbm, 453, rfl⟩
abbrev main_v336 : Ref sig .tc := ⟨.hbm, 454, rfl⟩
abbrev main_cst_88 : Ref sig .tc := ⟨.hbm, 455, rfl⟩
abbrev main_v337 : Ref sig .tc := ⟨.hbm, 456, rfl⟩
abbrev main_v338 : Ref sig .tc := ⟨.hbm, 457, rfl⟩
abbrev main_v339 : Ref sig .tc := ⟨.hbm, 458, rfl⟩
abbrev main_cst_89 : Ref sig .tc := ⟨.hbm, 459, rfl⟩
abbrev main_v340 : Ref sig .tc := ⟨.hbm, 460, rfl⟩
abbrev main_v341 : Ref sig .tc := ⟨.hbm, 461, rfl⟩
abbrev main_cst_90 : Ref sig .tc := ⟨.hbm, 462, rfl⟩
abbrev main_call8_v0 : Ref sig .tc := ⟨.hbm, 463, rfl⟩
abbrev main_call8_v1 : Ref sig .tc := ⟨.hbm, 464, rfl⟩
abbrev main_v342 : Ref sig .tc := ⟨.hbm, 465, rfl⟩
abbrev main_cst_91 : Ref sig .tc := ⟨.hbm, 466, rfl⟩
abbrev main_v343 : Ref sig .tc := ⟨.hbm, 467, rfl⟩
abbrev main_v344 : Ref sig .tc := ⟨.hbm, 468, rfl⟩
abbrev main_cst_92 : Ref sig .tc := ⟨.hbm, 469, rfl⟩
abbrev main_v345 : Ref sig .tc := ⟨.hbm, 470, rfl⟩
abbrev main_v346 : Ref sig .tc := ⟨.hbm, 471, rfl⟩
abbrev main_v347 : Ref sig .tc := ⟨.hbm, 472, rfl⟩
abbrev main_cst_93 : Ref sig .tc := ⟨.hbm, 473, rfl⟩
abbrev main_v348 : Ref sig .tc := ⟨.hbm, 474, rfl⟩
abbrev main_v349 : Ref sig .tc := ⟨.hbm, 475, rfl⟩
abbrev main_cst_94 : Ref sig .tc := ⟨.hbm, 476, rfl⟩
abbrev main_call9_v0 : Ref sig .tc := ⟨.hbm, 477, rfl⟩
abbrev main_call9_v1 : Ref sig .tc := ⟨.hbm, 478, rfl⟩
abbrev main_v350 : Ref sig .tc := ⟨.hbm, 479, rfl⟩
abbrev main_v351 : Ref sig .tc := ⟨.hbm, 480, rfl⟩
abbrev main_v352 : Ref sig .tc := ⟨.hbm, 481, rfl⟩
abbrev main_v353 : Ref sig .tc := ⟨.hbm, 482, rfl⟩
abbrev main_v354 : Ref sig .tc := ⟨.hbm, 483, rfl⟩
abbrev main_v355 : Ref sig .tc := ⟨.hbm, 484, rfl⟩
abbrev main_v356 : Ref sig .tc := ⟨.hbm, 485, rfl⟩
abbrev main_c_95 : Ref sig .tc := ⟨.hbm, 486, rfl⟩
abbrev main_v357 : Ref sig .tc := ⟨.hbm, 487, rfl⟩
abbrev main_v358 : Ref sig .tc := ⟨.hbm, 488, rfl⟩
abbrev main_c_96 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_c_97 : Ref sig .tc := ⟨.hbm, 495, rfl⟩
abbrev main_v364 : Ref sig .tc := ⟨.hbm, 496, rfl⟩
abbrev main_v365 : Ref sig .tc := ⟨.hbm, 497, rfl⟩
abbrev main_c_98 : Ref sig .tc := ⟨.hbm, 498, rfl⟩
abbrev main_v366 : Ref sig .tc := ⟨.hbm, 499, rfl⟩
abbrev main_v367 : Ref sig .tc := ⟨.hbm, 500, rfl⟩
abbrev main_v368 : Ref sig .tc := ⟨.hbm, 501, rfl⟩
abbrev main_v369 : Ref sig .tc := ⟨.hbm, 502, rfl⟩
abbrev main_v370 : Ref sig .tc := ⟨.hbm, 503, rfl⟩
abbrev main_v371 : Ref sig .tc := ⟨.hbm, 504, rfl⟩
abbrev main_v372 : Ref sig .tc := ⟨.hbm, 505, rfl⟩
abbrev main_v373 : Ref sig .tc := ⟨.hbm, 506, rfl⟩
abbrev main_v374 : Ref sig .tc := ⟨.hbm, 507, rfl⟩
abbrev main_cst_99 : Ref sig .tc := ⟨.hbm, 508, rfl⟩
abbrev main_v375 : Ref sig .tc := ⟨.hbm, 509, rfl⟩
abbrev main_v376 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_v380 : Ref sig .tc := ⟨.hbm, 514, rfl⟩
abbrev main_v381 : Ref sig .tc := ⟨.hbm, 515, rfl⟩
abbrev main_c_100 : Ref sig .tc := ⟨.hbm, 516, rfl⟩
abbrev main_v382 : Ref sig .tc := ⟨.hbm, 517, rfl⟩
abbrev main_v383 : Ref sig .tc := ⟨.hbm, 518, rfl⟩
abbrev main_c_101 : Ref sig .tc := ⟨.hbm, 519, rfl⟩
abbrev main_v384 : Ref sig .tc := ⟨.hbm, 520, rfl⟩
abbrev main_v385 : Ref sig .tc := ⟨.hbm, 521, rfl⟩
abbrev main_v386 : Ref sig .tc := ⟨.hbm, 522, rfl⟩
abbrev main_v387 : Ref sig .tc := ⟨.hbm, 523, rfl⟩
abbrev main_v388 : Ref sig .tc := ⟨.hbm, 524, rfl⟩
abbrev main_c_102 : Ref sig .tc := ⟨.hbm, 525, rfl⟩
abbrev main_v389 : Ref sig .tc := ⟨.hbm, 526, rfl⟩
abbrev main_v390 : Ref sig .tc := ⟨.hbm, 527, rfl⟩
abbrev main_c_103 : Ref sig .tc := ⟨.hbm, 528, rfl⟩
abbrev main_v391 : Ref sig .tc := ⟨.hbm, 529, rfl⟩
abbrev main_v392 : Ref sig .tc := ⟨.hbm, 530, rfl⟩
abbrev main_v393 : Ref sig .tc := ⟨.hbm, 531, rfl⟩
abbrev main_v394 : Ref sig .tc := ⟨.hbm, 532, rfl⟩
abbrev main_v395 : Ref sig .tc := ⟨.hbm, 533, rfl⟩
abbrev main_v396 : Ref sig .tc := ⟨.hbm, 534, rfl⟩
abbrev main_v397 : Ref sig .tc := ⟨.hbm, 535, rfl⟩
abbrev main_v398 : Ref sig .tc := ⟨.hbm, 536, rfl⟩
abbrev main_v399 : Ref sig .tc := ⟨.hbm, 537, rfl⟩
abbrev main_cst_104 : Ref sig .tc := ⟨.hbm, 538, rfl⟩
abbrev main_v400 : Ref sig .tc := ⟨.hbm, 539, rfl⟩
abbrev main_v401 : Ref sig .tc := ⟨.hbm, 540, rfl⟩
abbrev main_v402 : Ref sig .tc := ⟨.hbm, 541, rfl⟩
abbrev main_v403 : Ref sig .tc := ⟨.hbm, 542, rfl⟩
abbrev main_v404 : Ref sig .tc := ⟨.hbm, 543, rfl⟩
abbrev main_v405 : Ref sig .tc := ⟨.hbm, 544, rfl⟩
abbrev main_v406 : Ref sig .tc := ⟨.hbm, 545, rfl⟩
abbrev main_cst_105 : Ref sig .tc := ⟨.hbm, 546, rfl⟩
abbrev main_call10_cst : Ref sig .tc := ⟨.hbm, 547, rfl⟩
abbrev main_call10_v0 : Ref sig .tc := ⟨.hbm, 548, rfl⟩
abbrev main_call10_v1 : Ref sig .tc := ⟨.hbm, 549, rfl⟩
abbrev main_call10_v2 : Ref sig .tc := ⟨.hbm, 550, rfl⟩
abbrev main_call10_v3 : Ref sig .tc := ⟨.hbm, 551, rfl⟩
abbrev main_call10_v4 : Ref sig .tc := ⟨.hbm, 552, rfl⟩
abbrev main_v407 : Ref sig .tc := ⟨.hbm, 553, rfl⟩
abbrev main_v408 : Ref sig .tc := ⟨.hbm, 554, rfl⟩
abbrev main_v409 : Ref sig .tc := ⟨.hbm, 555, rfl⟩
abbrev main_v410 : Ref sig .tc := ⟨.hbm, 556, rfl⟩
abbrev main_v411 : Ref sig .tc := ⟨.hbm, 557, rfl⟩
abbrev main_cst_106 : Ref sig .tc := ⟨.hbm, 558, rfl⟩
abbrev main_call11_cst : Ref sig .tc := ⟨.hbm, 559, rfl⟩
abbrev main_call11_v0 : Ref sig .tc := ⟨.hbm, 560, rfl⟩
abbrev main_call11_v1 : Ref sig .tc := ⟨.hbm, 561, rfl⟩
abbrev main_call11_v2 : Ref sig .tc := ⟨.hbm, 562, rfl⟩
abbrev main_call11_v3 : Ref sig .tc := ⟨.hbm, 563, rfl⟩
abbrev main_call11_v4 : Ref sig .tc := ⟨.hbm, 564, rfl⟩
abbrev main_v412 : Ref sig .tc := ⟨.hbm, 565, rfl⟩
abbrev main_v413 : Ref sig .tc := ⟨.hbm, 566, rfl⟩
abbrev main_v414 : Ref sig .tc := ⟨.hbm, 567, rfl⟩
abbrev main_v415 : Ref sig .tc := ⟨.hbm, 568, rfl⟩
abbrev main_v416 : Ref sig .tc := ⟨.hbm, 569, rfl⟩
abbrev main_c_107 : Ref sig .tc := ⟨.hbm, 570, rfl⟩
abbrev main_v417 : Ref sig .tc := ⟨.hbm, 571, rfl⟩
abbrev main_v418 : Ref sig .tc := ⟨.hbm, 572, rfl⟩
abbrev main_c_108 : Ref sig .tc := ⟨.hbm, 573, rfl⟩
abbrev main_v419 : Ref sig .tc := ⟨.hbm, 574, rfl⟩
abbrev main_v420 : Ref sig .tc := ⟨.hbm, 575, rfl⟩
abbrev main_v421 : Ref sig .tc := ⟨.hbm, 576, rfl⟩
abbrev main_v422 : Ref sig .tc := ⟨.hbm, 577, rfl⟩
abbrev main_v423 : Ref sig .tc := ⟨.hbm, 578, rfl⟩
abbrev main_c_109 : Ref sig .tc := ⟨.hbm, 579, rfl⟩
abbrev main_v424 : Ref sig .tc := ⟨.hbm, 580, rfl⟩
abbrev main_v425 : Ref sig .tc := ⟨.hbm, 581, rfl⟩
abbrev main_c_110 : Ref sig .tc := ⟨.hbm, 582, rfl⟩
abbrev main_v426 : Ref sig .tc := ⟨.hbm, 583, rfl⟩
abbrev main_v427 : Ref sig .tc := ⟨.hbm, 584, rfl⟩
abbrev main_v428 : Ref sig .tc := ⟨.hbm, 585, rfl⟩
abbrev main_v429 : Ref sig .tc := ⟨.hbm, 586, rfl⟩
abbrev main_v430 : Ref sig .tc := ⟨.hbm, 587, rfl⟩
abbrev main_v431 : Ref sig .tc := ⟨.hbm, 588, rfl⟩
abbrev main_v432 : Ref sig .tc := ⟨.hbm, 589, rfl⟩
abbrev main_v433 : Ref sig .tc := ⟨.hbm, 590, rfl⟩
abbrev main_v434 : Ref sig .tc := ⟨.hbm, 591, rfl⟩
abbrev main_cst_111 : Ref sig .tc := ⟨.hbm, 592, rfl⟩
abbrev main_v435 : Ref sig .tc := ⟨.hbm, 593, rfl⟩
abbrev main_v436 : Ref sig .tc := ⟨.hbm, 594, rfl⟩
abbrev main_v437 : Ref sig .tc := ⟨.hbm, 595, rfl⟩
abbrev main_v438 : Ref sig .tc := ⟨.hbm, 596, rfl⟩
abbrev main_v439 : Ref sig .tc := ⟨.hbm, 597, rfl⟩
abbrev main_cst_112 : Ref sig .tc := ⟨.hbm, 598, rfl⟩
abbrev main_v440 : Ref sig .tc := ⟨.hbm, 599, rfl⟩
abbrev main_v441 : Ref sig .tc := ⟨.hbm, 600, rfl⟩
abbrev main_v442 : Ref sig .tc := ⟨.hbm, 601, rfl⟩
abbrev main_v443 : Ref sig .tc := ⟨.hbm, 602, rfl⟩
abbrev main_v444 : Ref sig .tc := ⟨.hbm, 603, rfl⟩

abbrev nD : Nat := 1
abbrev τ : Topo := Topo.v7x

variable {F : FTy → Type} [FloatOps F]
-- ==== Proof.KRun.lean ====
/-
  The run of the idealized kernel program with its result named.  The generated frame of the program keeps the
  argument arrays; here the same launch is read once more, now also at the result buffer: at the end of every run it
  holds the last of the boundary contents (`W9`), which the later modules open stage by stage.
-/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the kernel program terminates with its result
    buffer at the last boundary contents and every argument array as launched. -/
theorem run : θ_run defs (onTc (τ := τ) (main (F := F))) ⟨m, fun _ => 0, ρ⟩ (fun r => ∀ c : Dev nD,
      r.2.mem ((c.tc : Thread nD τ).loc main_v98) = W9 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c =>
      ⟨h c _ (mem_uc main_v98 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Hand

end
-- ==== Proof.KernelTerm.lean ====
/-
  The arrays that the idealized kernel program prepares before and between its two pipelined parts, written as terms of
  its arguments.  Every edge gets a node id `5 * node + rating`; degrees are counted per id, a message is a feature row
  times the source's normaliser, messages are summed per destination id, and the sums of one node's five ratings lie
  side by side in one row of 640 numbers.
-/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic

variable {F : FTy → Type} [FloatOps F]

/-- Node ids: five times the node plus the rating, per edge. -/
def kIds (a r : IVec S400000 32) : IVec S400000 32 :=
  addi (muli a (broadcastInDim S400000 ![] bcast_S_S400000 (constantI S_ 32 5#32))) r

/-- The zero vector over the node ids. -/
def kZero : Vec F S125000 .f32 := broadcastInDim S125000 ![] bcast_S_S125000 (constant S_ .f32 0x00000000#32)

/-- Degrees: the number of edges of each node id. -/
def kDeg (ids : IVec S400000 32) : Vec F S125000 .f32 :=
  Host.scatterAdd scatter_S125000_S400000x1_S400000_n_0_0_1 kZero (broadcastInDim S400000x1 ![0] bcast_S400000_S400000x1_0 ids)
    (broadcastInDim S400000 ![] bcast_S_S400000 (constant S_ .f32 0x3F800000#32))

/-- Whether each degree is positive. -/
def kPos (ids : IVec S400000 32) : IVec S125000 1 := cmpf .ogt (kDeg (F := F) ids) kZero

/-- The reciprocal square root of each degree, taken to be at least one. -/
def kInv (ids : IVec S400000 32) : Vec F S125000 .f32 :=
  Host.rsqrt (maximumf (kDeg ids) (broadcastInDim S125000 ![] bcast_S_S125000 (constant S_ .f32 0x3F800000#32)))

/-- The normaliser of each node id: the reciprocal square root of a positive degree, and zero otherwise. -/
def kNorm (ids : IVec S400000 32) : Vec F S125000 .f32 :=
  select (kPos (F := F) ids) (kInv ids) (broadcastInDim S125000 ![] bcast_S_S125000 (id (constant S_ .f32 0x00000000#32)))

/-- Row numbers below zero counted from the end of an array of N rows. -/
def kWrap (N : BitVec 32) (i : IVec S400000 32) : IVec S400000 32 :=
  select (cmpi .slt i (broadcastInDim S400000 ![] bcast_S_S400000 (constantI S_ 32 0#32)))
    (addi i (broadcastInDim S400000 ![] bcast_S_S400000 (constantI S_ 32 N))) i

/-- The messages: each edge's source row times the source id's normaliser. -/
def kMsg (x : Vec F S25000x128 .f32) (s ids : IVec S400000 32) : Vec F S400000x128 .f32 :=
  mulf (Host.gather gather_S25000x128_S400000x1_S400000x128_1_0_n_n_0_1_1128 x
      (broadcastInDim S400000x1 ![0] bcast_S400000_S400000x1_0 (kWrap 25000#32 s)))
    (broadcastInDim S400000x128 ![0, 1] bcast_S400000x1_S400000x128_0_1 (broadcastInDim S400000x1 ![0] bcast_S400000_S400000x1_0
      (Host.gather gather_S125000_S400000x1_S400000_n_0_n_n_0_1_1 (kNorm ids)
        (broadcastInDim S400000x1 ![0] bcast_S400000_S400000x1_0 (kWrap 125000#32 ids)))))

/-- The messages summed per destination id. -/
def kSum (x : Vec F S25000x128 .f32) (s ids idd : IVec S400000 32) : Vec F S125000x128 .f32 :=
  Host.scatterAdd scatter_S125000x128_S400000x1_S400000x128_1_0_0_1
    (broadcastInDim S125000x128 ![] bcast_S_S125000x128 (constant S_ .f32 0x00000000#32))
    (broadcastInDim S400000x1 ![0] bcast_S400000_S400000x1_0 idd) (kMsg x s ids)

/-- The sums times the destination's normaliser, one row of 640 numbers per node. -/
def kRows (x : Vec F S25000x128 .f32) (s ids idd : IVec S400000 32) : Vec F S25000x640 .f32 :=
  shapeCast S25000x640 (mulf (kSum x s ids idd)
    (broadcastInDim S125000x128 ![0, 1] bcast_S125000x1_S125000x128_0_1 (broadcastInDim S125000x1 ![0] bcast_S125000_S125000x1_0
      (kNorm idd)))) shapeCasts_S125000x128_S25000x640

/-- Row numbers of the decoder's edges, those below zero counted from the end of an array of 25000 rows. -/
def kWrapD (i : IVec S200000 32) : IVec S200000 32 :=
  select (cmpi .slt i (broadcastInDim S200000 ![] bcast_S_S200000 (constantI S_ 32 0#32)))
    (addi i (broadcastInDim S200000 ![] bcast_S_S200000 (constantI S_ 32 25000#32))) i

/-- The rows that the decoder reads, one per decoder edge. -/
def kTake (x : Vec F S25000x64 .f32) (i : IVec S200000 32) : Vec F S200000x64 .f32 :=
  Host.gather gather_S25000x64_S200000x1_S200000x64_1_0_n_n_0_1_164 x
    (broadcastInDim S200000x1 ![0] bcast_S200000_S200000x1_0 (kWrapD i))

/-- The mixing weights, filled up with zero columns. -/
def kMix (w : Vec F S2x5 .f32) : Vec F S2x8 .f32 :=
  Host.scatter scatter_S2x8_S1_S2x5_01_n_1_0 (fun _ b => b)
    (broadcastInDim S2x8 ![] bcast_S_S2x8 (constant S_ .f32 0x00000000#32))
    (broadcastInDim S1 ![] bcast_S_S1 (constantI S_ 32 0#32)) w

end Cert.KernelIdeal.Hand

end
-- ==== Proof.KernelHost.lean ====
/-
  The host stretches of the idealized kernel program, read off: what the buffers that the two pipelined parts take
  hold, as the terms of `KernelTerm`.
-/
module

public import proofs.«01_k».proof.Proof.KernelTerm

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]
variable (V : Valuation τ sig (Elt F))

section first

theorem ops0_v2 : after hostOps0 V (Proc.devRef .tc main_v2)
    = kIds (V (Proc.devRef .tc main_arg2)) (V (Proc.devRef .tc main_arg4)) := by
  after_results_simp
  all_goals rfl

theorem ops0_v5 : after hostOps0 V (Proc.devRef .tc main_v5)
    = kIds (V (Proc.devRef .tc main_arg3)) (V (Proc.devRef .tc main_arg4)) := by
  after_results_simp
  all_goals rfl

theorem ops0_v12 : after hostOps0 V (Proc.devRef .tc main_v12)
    = kDeg (kIds (V (Proc.devRef .tc main_arg3)) (V (Proc.devRef .tc main_arg4))) := by
  after_results_simp
  all_goals rfl

theorem ops0_v14 : after hostOps0 V (Proc.devRef .tc main_v14)
    = kPos (F := F) (kIds (V (Proc.devRef .tc main_arg2)) (V (Proc.devRef .tc main_arg4))) := by
  after_results_simp
  all_goals rfl

theorem ops0_v17 : after hostOps0 V (Proc.devRef .tc main_v17)
    = kInv (kIds (V (Proc.devRef .tc main_arg2)) (V (Proc.devRef .tc main_arg4))) := by
  after_results_simp
  all_goals rfl

theorem ops0_cst5 : after hostOps0 V (Proc.devRef .tc main_cst_5) = constant S_ .f32 0x00000000#32 := by
  after_results_simp
  all_goals rfl

theorem ops1_v18 : after hostOps0_1 V (Proc.devRef .tc main_v18)
    = select (V (Proc.devRef .tc main_v14)) (V (Proc.devRef .tc main_v17))
        (broadcastInDim S125000 ![] bcast_S_S125000 (id (V (Proc.devRef .tc main_cst_5)))) := by
  after_results_simp
  all_goals rfl

theorem ops2_v20 : after hostOps0_2 V (Proc.devRef .tc main_v20) = cmpf .ogt (V (Proc.devRef .tc main_v12)) kZero := by
  after_results_simp
  all_goals rfl

theorem ops2_v23 : after hostOps0_2 V (Proc.devRef .tc main_v23)
    = Host.rsqrt (maximumf (V (Proc.devRef .tc main_v12))
        (broadcastInDim S125000 ![] bcast_S_S125000 (constant S_ .f32 0x3F800000#32))) := by
  after_results_simp
  all_goals rfl

theorem ops2_cst8 : after hostOps0_2 V (Proc.devRef .tc main_cst_8) = constant S_ .f32 0x00000000#32 := by
  after_results_simp
  all_goals rfl

theorem ops3_v24 : after hostOps0_3 V (Proc.devRef .tc main_v24)
    = select (V (Proc.devRef .tc main_v20)) (V (Proc.devRef .tc main_v23))
        (broadcastInDim S125000 ![] bcast_S_S125000 (id (V (Proc.devRef .tc main_cst_8)))) := by
  after_results_simp
  all_goals rfl

end first

section fourth

variable (u i : IVec S400000 32)

set_option maxHeartbeats 4000000 in
theorem ops4_v68 (h2 : V (Proc.devRef .tc main_v2) = u) (h5 : V (Proc.devRef .tc main_v5) = i)
    (h18 : V (Proc.devRef .tc main_v18) = kNorm u) (h24 : V (Proc.devRef .tc main_v24) = kNorm i) :
    after hostOps0_4 V (Proc.devRef .tc main_v68)
      = kRows (V (Proc.devRef .tc main_arg0)) (V (Proc.devRef .tc main_arg2)) u i := by
  after_results_simp
  simp only [h2, h5, h18, h24]
  all_goals rfl

set_option maxHeartbeats 4000000 in
theorem ops4_v72 (h2 : V (Proc.devRef .tc main_v2) = u) (h5 : V (Proc.devRef .tc main_v5) = i)
    (h18 : V (Proc.devRef .tc main_v18) = kNorm u) (h24 : V (Proc.devRef .tc main_v24) = kNorm i) :
    after hostOps0_4 V (Proc.devRef .tc main_v72)
      = kRows (V (Proc.devRef .tc main_arg1)) (V (Proc.devRef .tc main_arg3)) i u := by
  after_results_simp
  simp only [h2, h5, h18, h24]
  all_goals rfl

set_option maxHeartbeats 4000000 in
theorem ops4_v76 : after hostOps0_4 V (Proc.devRef .tc main_v76)
      = concatenate S50000x640 0
          [⟨S25000x640, after hostOps0_4 V (Proc.devRef .tc main_v72)⟩, ⟨S25000x640, after hostOps0_4 V (Proc.devRef .tc main_v68)⟩]
          concatenates_S25000x640_S25000x640_S50000x640_d0 := by
  after_results_simp
  all_goals rfl

theorem ops4_v73 : after hostOps0_4 V (Proc.devRef .tc main_v73)
    = shapeCast S640x128 (V (Proc.devRef .tc main_arg7)) shapeCasts_S5x128x128_S640x128 := by
  after_results_simp
  all_goals rfl

theorem ops4_v75 : after hostOps0_4 V (Proc.devRef .tc main_v75)
    = broadcastInDim S8x64 ![0, 1] bcast_S1x64_S8x64_0_1 (broadcastInDim S1x64 ![1] bcast_S64_S1x64_1
        (V (Proc.devRef .tc main_arg9))) := by
  after_results_simp
  all_goals rfl

end fourth

section later

theorem opsB_v86 : after hostOps1 V (Proc.devRef .tc main_v86)
    = kTake (extractStridedSlice S25000x64 ![0, 0] (V (Proc.devRef .tc main_v77)) slices_S50000x64_S25000x64_0_0)
        (V (Proc.devRef .tc main_arg5)) := by
  after_results_simp
  all_goals rfl

theorem opsB_v93 : after hostOps1 V (Proc.devRef .tc main_v93)
    = kTake (extractStridedSlice S25000x64 ![25000, 0] (V (Proc.devRef .tc main_v77)) slices_S50000x64_S25000x64_25000_0)
        (V (Proc.devRef .tc main_arg6)) := by
  after_results_simp
  all_goals rfl

theorem opsB_v96 : after hostOps1 V (Proc.devRef .tc main_v96) = kMix (V (Proc.devRef .tc main_arg11)) := by
  after_results_simp
  all_goals rfl

theorem opsC_v98 : after hostOps2 V (Proc.devRef .tc main_v98)
    = extractStridedSlice S200000x5 ![0, 0] (V (Proc.devRef .tc main_v97)) slices_S200000x8_S200000x5_0_0 := by
  after_results_simp
  all_goals rfl

end later

section run

variable (m : (ℓ : Loc nD τ sig) → Buf (Elt F) ℓ) (ρ : Dev nD → PrngReg) (c : Dev nD)

/-- An argument's contents at launch. -/
abbrev arg (r : Ref sig .tc) : Buf (Elt F) ((c : Thread nD τ).loc r) := m ((c : Thread nD τ).loc r)

/-- The source ids (user side) of a launch. -/
abbrev idsU : IVec S400000 32 := kIds (arg m c main_arg2) (arg m c main_arg4)
/-- The destination ids (item side) of a launch. -/
abbrev idsI : IVec S400000 32 := kIds (arg m c main_arg3) (arg m c main_arg4)

theorem W4_v2 : W4 m ρ c (Proc.devRef .tc main_v2) = idsU m c :=
  (W4_of m ρ c main_v2 (by decide)).trans <| (W3_of m ρ c main_v2 (by decide)).trans <|
    (W2_of m ρ c main_v2 (by decide)).trans (ops0_v2 (W0 m ρ c))

theorem W4_v5 : W4 m ρ c (Proc.devRef .tc main_v5) = idsI m c :=
  (W4_of m ρ c main_v5 (by decide)).trans <| (W3_of m ρ c main_v5 (by decide)).trans <|
    (W2_of m ρ c main_v5 (by decide)).trans (ops0_v5 (W0 m ρ c))

theorem W4_v18 : W4 m ρ c (Proc.devRef .tc main_v18) = kNorm (idsU m c) := by
  refine (W4_of m ρ c main_v18 (by decide)).trans <| (W3_of m ρ c main_v18 (by decide)).trans <|
    (ops1_v18 (W1 m ρ c)).trans ?_
  have h14 : W1 m ρ c (Proc.devRef .tc main_v14) = kPos (F := F) (idsU m c) := ops0_v14 (W0 m ρ c)
  have h17 : W1 m ρ c (Proc.devRef .tc main_v17) = kInv (idsU m c) := ops0_v17 (W0 m ρ c)
  have h5 : W1 m ρ c (Proc.devRef .tc main_cst_5) = constant S_ .f32 0x00000000#32 := ops0_cst5 (W0 m ρ c)
  rw [h14, h17, h5]
  rfl

theorem W4_v24 : W4 m ρ c (Proc.devRef .tc main_v24) = kNorm (idsI m c) := by
  refine (ops3_v24 (W3 m ρ c)).trans ?_
  have h : W2 m ρ c (Proc.devRef .tc main_v12) = kDeg (idsI m c) :=
    (W2_of m ρ c main_v12 (by decide)).trans (ops0_v12 (W0 m ρ c))
  have h20 : W3 m ρ c (Proc.devRef .tc main_v20) = kPos (F := F) (idsI m c) :=
    (ops2_v20 (W2 m ρ c)).trans (congrArg (fun d => cmpf .ogt d kZero) h)
  have h23 : W3 m ρ c (Proc.devRef .tc main_v23) = kInv (idsI m c) :=
    (ops2_v23 (W2 m ρ c)).trans (congrArg (fun d => Host.rsqrt (maximumf d
      (broadcastInDim S125000 ![] bcast_S_S125000 (constant S_ .f32 0x3F800000#32)))) h)
  have h8 : W3 m ρ c (Proc.devRef .tc main_cst_8) = constant S_ .f32 0x00000000#32 := ops2_cst8 (W2 m ρ c)
  rw [h20, h23, h8]
  rfl

/-- The first pipelined part's rows: the users' rows above the items' rows. -/
def rowsAll : Vec F S50000x640 .f32 :=
  concatenate S50000x640 0
    [⟨S25000x640, kRows (arg m c main_arg1) (arg m c main_arg3) (idsI m c) (idsU m c)⟩,
     ⟨S25000x640, kRows (arg m c main_arg0) (arg m c main_arg2) (idsU m c) (idsI m c)⟩]
    concatenates_S25000x640_S25000x640_S50000x640_d0

theorem W5_v76 : W5 m ρ c (Proc.devRef .tc main_v76) = rowsAll m c := by
  refine (ops4_v76 (W4 m ρ c)).trans ?_
  rw [ops4_v72 (W4 m ρ c) _ _ (W4_v2 m ρ c) (W4_v5 m ρ c) (W4_v18 m ρ c) (W4_v24 m ρ c),
    ops4_v68 (W4 m ρ c) _ _ (W4_v2 m ρ c) (W4_v5 m ρ c) (W4_v18 m ρ c) (W4_v24 m ρ c),
    W4_args m ρ c main_arg0 (by decide), W4_args m ρ c main_arg1 (by decide), W4_args m ρ c main_arg2 (by decide),
    W4_args m ρ c main_arg3 (by decide)]
  rfl

theorem W5_v73 : W5 m ρ c (Proc.devRef .tc main_v73)
    = shapeCast S640x128 (arg m c main_arg7) shapeCasts_S5x128x128_S640x128 := by
  refine (ops4_v73 (W4 m ρ c)).trans ?_
  rw [W4_args m ρ c main_arg7 (by decide)]

theorem W5_v75 : W5 m ρ c (Proc.devRef .tc main_v75)
    = broadcastInDim S8x64 ![0, 1] bcast_S1x64_S8x64_0_1 (broadcastInDim S1x64 ![1] bcast_S64_S1x64_1 (arg m c main_arg9)) := by
  refine (ops4_v75 (W4 m ρ c)).trans ?_
  rw [W4_args m ρ c main_arg9 (by decide)]

theorem W7_v86 : W7 m ρ c (Proc.devRef .tc main_v86)
    = kTake (extractStridedSlice S25000x64 ![0, 0] (W6 m ρ c (Proc.devRef .tc main_v77)) slices_S50000x64_S25000x64_0_0)
        (arg m c main_arg5) := by
  refine (opsB_v86 (W6 m ρ c)).trans ?_
  rw [W6_args m ρ c main_arg5 (by decide)]

theorem W7_v93 : W7 m ρ c (Proc.devRef .tc main_v93)
    = kTake (extractStridedSlice S25000x64 ![25000, 0] (W6 m ρ c (Proc.devRef .tc main_v77)) slices_S50000x64_S25000x64_25000_0)
        (arg m c main_arg6) := by
  refine (opsB_v93 (W6 m ρ c)).trans ?_
  rw [W6_args m ρ c main_arg6 (by decide)]

theorem W7_v96 : W7 m ρ c (Proc.devRef .tc main_v96) = kMix (arg m c main_arg11) := by
  refine (opsB_v96 (W6 m ρ c)).trans ?_
  rw [W6_args m ρ c main_arg11 (by decide)]

end run

end Cert.KernelIdeal.Hand

end
-- ==== Proof.Layer.lean ====
/-
  What one block of the kernel's first pipelined part computes, read at an index: a row of features times the stacked
  rating weights, the leaky rectifier, times the fully connected weights, plus the bias.
-/
module

public import proofs.«01_k».proof.Proof.Gen.KernelIdeal.Skeleton
public import Idealize.ShloMosaic.Lib.ValueIdx
public import Idealize.ShloMosaic.Lib.MatmulPlain
public import Idealize.ShloMosaic.Lib.KernelVsHost
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.ValueIdx
open scoped BigOperators

/-- The leaky rectifier as the kernel spells it: the argument where it is above zero, a tenth of it elsewhere. -/
def leaky (x : EReal) : EReal :=
  Scalar.select (Ideal.cmp .ogt x (Ideal.ofBits .f32 0x00000000#32)) x (Ideal.ofBits .f32 0x3DCCCCCD#32 * x)

/-- The layer of one row `x`: hidden values through `w1` and the leaky rectifier, then `w2`, then the bias `b`. -/
def layer (x : Fin 640 → EReal) (w1 : S640x128.Idx → EReal) (w2 : S128x64.Idx → EReal) (b : EReal) (c : Fin 64) : EReal :=
  (∑ k : Fin 128, leaky (∑ q : Fin 640, x q * w1 (ix2 q k)) * w2 (ix2 k c)) + b

/-- The block's payload at (r, c) is the layer of row r at column c. -/
theorem k0_pay1_apply (v0 : Vec Ideal S2000x640 .f32) (v2 : Vec Ideal S640x128 .f32) (v10 : Vec Ideal S128x64 .f32)
    (v12 : Vec Ideal S1x64 .f32) (r : Fin 2000) (c : Fin 64) :
    k0_pay1 v0 v2 v10 v12 (ix2 r c) = layer (fun q => v0 (ix2 r q)) v2 v10 (v12 (ix2 (0 : Fin 1) c)) c := by
  have hz : ∀ j, constant (F := Ideal) S2000x128 .f32 0x00000000#32 j = 0 := fun j => Ideal.ofBits_zero_f32
  have hz' : ∀ j, constant (F := Ideal) S2000x64 .f32 0x00000000#32 j = 0 := fun j => Ideal.ofBits_zero_f32
  have hh : ∀ k : Fin 128, (matmul dot_S2000x640_S640x128_S2000x128_1_0_0_1_n_n none v0 v2
      (constant S2000x128 .f32 0x00000000#32) : FVec Ideal S2000x128 .f32) (ix2 r k) = ∑ q : Fin 640, v0 (ix2 r q) * v2 (ix2 q k) := fun k => by
    refine (Ideal.matmul_plain_apply (M := 2000) (K := 640) (N := 128) none v0 v2 _ r k).trans ?_
    rw [hz, zero_add]
  unfold k0_pay1 layer
  simp only [shapeCast_self]
  show (matmul dot_S2000x128_S128x64_S2000x64_1_0_0_1_n_n none _ v10 (constant S2000x64 .f32 0x00000000#32) : FVec Ideal S2000x64 .f32) (ix2 r c) + _ = _
  congr 1
  · refine (Ideal.matmul_plain_apply (M := 2000) (K := 128) (N := 64) none _ v10 _ r c).trans ?_
    rw [hz', zero_add]
    refine Finset.sum_congr rfl fun k _ => ?_
    congr 1
    exact congrArg leaky (hh k)
  · exact broadcastTo_apply v12 _ _ _ (by intro a; match a with | ⟨0, _⟩ => rfl | ⟨1, _⟩ => rfl)

end Cert.KernelIdeal.Hand

end
-- ==== Proof.LayerArray.lean ====
/-
  What the kernel's first pipelined part leaves in its output array: every row of the array is the layer of the same row
  of the input array.  The 25 blocks of 2000 rows tile the 50000 rows, each block's output being the layer of its rows.
-/
module

public import proofs.«01_k».proof.Proof.Layer
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Two zero offsets are the zero function. -/
theorem off2 : (![0, 0] : Fin 2 → Nat) = fun _ => 0 := funext fun a => by fin_cases a <;> rfl

/-- The layer of every row of `x`, as an array. -/
def layerArr (x : S50000x640.Idx → EReal) (w1 : S640x128.Idx → EReal) (w2 : S128x64.Idx → EReal) (b : S8x64.Idx → EReal) :
    S50000x64.Idx → EReal :=
  fun i => layer (fun q => x (ix2 (⟨(i 0).val, (i 0).isLt⟩ : Fin 50000) q)) w1 w2 (b (ix2 (0 : Fin 8) (⟨(i 1).val, (i 1).isLt⟩ : Fin 64)))
    ⟨(i 1).val, (i 1).isLt⟩

/-- The block indices at a grid point: the row blocks follow the point, the others stay at zero. -/
theorem idx0 : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 := by decide +kernel

/-- The extents of the output block at a grid point. -/
theorem ext0 : ∀ t : Fin grid0.N, win0_4.xsize (grid0.coords t) 0 = 2000 ∧ win0_4.xsize (grid0.coords t) 1 = 64 := by decide +kernel

/-- Row r of the input block at point t is row 2000 t + r of the array. -/
theorem iblk0_0_apply (c : Dev nD) (t : Fin cfg0.N) (r : Fin 2000) (q : Fin 640) (n : Fin 50000) (hn : n.val = t.val * 2000 + r.val) :
    iblk0 V c 0 t (ix2 r q) = V c main_v76 (ix2 n q) := by
  have e := idx0 t
  show V c main_v76 (((cfg0.win 0).blk t).view.emb (ix2 r q)) = _
  refine congrArg (V c main_v76) (funext fun a => Fin.ext ?_)
  match a with
  | ⟨0, _⟩ => show win0_0.index t 0 * 2000 + 1 * r.val = n.val; rw [e.1]; omega
  | ⟨1, _⟩ => show win0_0.index t 1 * 640 + 1 * q.val = q.val; rw [e.2.1]; omega

/-- The stacked weights' block is the whole array. -/
theorem iblk0_1_eq (c : Dev nD) (t : Fin cfg0.N) : iblk0 V c 1 t = V c main_v73 := by
  have e := idx0 t
  funext j
  show V c main_v73 (((cfg0.win 1).blk t).view.emb j) = _
  refine congrArg (V c main_v73) (funext fun a => Fin.ext ?_)
  match a with
  | ⟨0, _⟩ => show win0_1.index t 0 * 640 + 1 * (j 0).val = (j 0).val; rw [e.2.2.1]; omega
  | ⟨1, _⟩ => show win0_1.index t 1 * 128 + 1 * (j 1).val = (j 1).val; rw [e.2.2.2.1]; omega

/-- The fully connected weights' block is the whole array. -/
theorem iblk0_2_eq (c : Dev nD) (t : Fin cfg0.N) : iblk0 V c 2 t = V c main_arg8 := by
  have e := idx0 t
  funext j
  show V c main_arg8 (((cfg0.win 2).blk t).view.emb j) = _
  refine congrArg (V c main_arg8) (funext fun a => Fin.ext ?_)
  match a with
  | ⟨0, _⟩ => show win0_2.index t 0 * 128 + 1 * (j 0).val = (j 0).val; rw [e.2.2.2.2.1]; omega
  | ⟨1, _⟩ => show win0_2.index t 1 * 64 + 1 * (j 1).val = (j 1).val; rw [e.2.2.2.2.2.1]; omega

/-- The bias rows' block is the whole array. -/
theorem iblk0_3_eq (c : Dev nD) (t : Fin cfg0.N) : iblk0 V c 3 t = V c main_v75 := by
  have e := idx0 t
  funext j
  show V c main_v75 (((cfg0.win 3).blk t).view.emb j) = _
  refine congrArg (V c main_v75) (funext fun a => Fin.ext ?_)
  match a with
  | ⟨0, _⟩ => show win0_3.index t 0 * 8 + 1 * (j 0).val = (j 0).val; rw [e.2.2.2.2.2.2.1]; omega
  | ⟨1, _⟩ => show win0_3.index t 1 * 64 + 1 * (j 1).val = (j 1).val; rw [e.2.2.2.2.2.2.2.1]; omega

/-- What point t writes back is its block of the layer of every row. -/
theorem flushed0 (c : Dev nD) (t : Fin cfg0.N) :
    (dat0 V c).flushed 4 t = (win0_4.blk t).view.read (Elt Ideal)
      (layerArr (V c main_v76) (V c main_v73) (V c main_arg8) (V c main_v75)) := by
  have e := idx0 t
  show (cfg0.win 4).cut (grid0.coords t) ((dat0 V c).after 4 t) = _
  rw [after0_4]
  unfold out0_4
  rw [View.canon_unit_zero off2, View.ld_unit_zero off2, View.ld_unit_zero off2, View.ld_unit_zero off2,
    iblk0_1_eq, iblk0_2_eq, iblk0_3_eq]
  funext j
  have hj0 : (j 0).val < 2000 := (ext0 t).1 ▸ (j 0).isLt
  have hj1 : (j 1).val < 64 := (ext0 t).2 ▸ (j 1).isLt
  have ht : t.val < 25 := t.isLt
  have hk := k0_pay1_apply (iblk0 V c 0 t) (V c main_v73) (V c main_arg8) (View.ld (V c main_v75) r0_3) ⟨(j 0).val, hj0⟩ ⟨(j 1).val, hj1⟩
  have e4 : (win0_4.blk t).view.emb j = ix2 (⟨t.val * 2000 + (j 0).val, by omega⟩ : Fin 50000) (⟨(j 1).val, hj1⟩ : Fin 64) := by
    funext a; apply Fin.ext
    match a with
    | ⟨0, _⟩ => show win0_4.index t 0 * 2000 + 1 * (j 0).val = t.val * 2000 + (j 0).val; rw [e.2.2.2.2.2.2.2.2.1]; omega
    | ⟨1, _⟩ => show win0_4.index t 1 * 64 + 1 * (j 1).val = (j 1).val; rw [e.2.2.2.2.2.2.2.2.2]; omega
  show k0_pay1 (iblk0 V c 0 t) (V c main_v73) (V c main_arg8) (View.ld (V c main_v75) r0_3) j
    = layerArr (V c main_v76) (V c main_v73) (V c main_arg8) (V c main_v75) ((win0_4.blk t).view.emb j)
  rw [e4]
  have ej : (j : S2000x64.Idx) = ix2 (⟨(j 0).val, hj0⟩ : Fin 2000) (⟨(j 1).val, hj1⟩ : Fin 64) := eq_ix2 _
  refine (congrArg (k0_pay1 (iblk0 V c 0 t) (V c main_v73) (V c main_arg8) (View.ld (V c main_v75) r0_3)) ej).trans (hk.trans ?_)
  unfold layerArr
  have e1 : (fun q => iblk0 V c 0 t (ix2 (⟨(j 0).val, hj0⟩ : Fin 2000) q))
      = fun q => V c main_v76 (ix2 (⟨t.val * 2000 + (j 0).val, by omega⟩ : Fin 50000) q) :=
    funext fun q => iblk0_0_apply V c t _ q _ rfl
  have e2 : View.ld (V c main_v75) r0_3 (ix2 (0 : Fin 1) (⟨(j 1).val, hj1⟩ : Fin 64)) = V c main_v75 (ix2 (0 : Fin 8) (⟨(j 1).val, hj1⟩ : Fin 64)) := by
    refine congrArg (V c main_v75) (funext fun a => Fin.ext ?_)
    match a with
    | ⟨0, _⟩ => rfl
    | ⟨1, _⟩ => show 0 + 1 * (j 1).val = (j 1).val; omega
  rw [e1, e2]

/-- An index of the output array is in point t's block when its row is in the block's 2000 rows. -/
theorem mem_blk0 (t : Fin cfg0.N) (i : S50000x64.Idx) :
    i ∈ ((cfg0.win 4).blk t).view.set ↔ t.val * 2000 ≤ (i 0 : Nat) ∧ (i 0 : Nat) < t.val * 2000 + 2000 := by
  have e := idx0 t
  have x := ext0 t
  show i ∈ ((View.whole main_v77).slice (win0_4.rect t)).set ↔ _
  rw [View.set_slice_whole, Rect.mem_set_unit]
  have h1 : (i 1 : Nat) < 64 := (i 1).isLt
  refine ⟨fun h => ?_, fun h a => ?_⟩
  · have : win0_4.index t 0 * 2000 ≤ (i 0 : Nat) ∧ (i 0 : Nat) < win0_4.index t 0 * 2000 + win0_4.xsize (grid0.coords t) 0 := h 0
    rw [e.2.2.2.2.2.2.2.2.1, x.1] at this; exact this
  · match a with
    | ⟨0, _⟩ => show win0_4.index t 0 * 2000 ≤ (i 0 : Nat) ∧ (i 0 : Nat) < win0_4.index t 0 * 2000 + win0_4.xsize (grid0.coords t) 0
                rw [e.2.2.2.2.2.2.2.2.1, x.1]; exact h
    | ⟨1, _⟩ => show win0_4.index t 1 * 64 ≤ (i 1 : Nat) ∧ (i 1 : Nat) < win0_4.index t 1 * 64 + win0_4.xsize (grid0.coords t) 1
                rw [e.2.2.2.2.2.2.2.2.2, x.2]; omega

/-- The blocks cover the output array. -/
theorem cover0 (i : S50000x64.Idx) : ∃ t : Fin cfg0.N, (cfg0.win 4).flush t = true ∧ i ∈ ((cfg0.win 4).blk t).view.set := by
  have h0 : (i 0 : Nat) < 50000 := (i 0).isLt
  have ht : (i 0 : Nat) / 2000 < 25 := by omega
  refine ⟨⟨(i 0 : Nat) / 2000, ht⟩, flush0_4 _, ?_⟩
  rw [mem_blk0]
  dsimp only
  omega

/-- After the first pipelined part the output array holds the layer of every row of the input array. -/
theorem final0 (c : Dev nD) : (dat0 V c).arrAt 4 cfg0.N
    = layerArr (V c main_v76) (V c main_v73) (V c main_arg8) (V c main_v75) :=
  (dat0 V c).arrAt_eq_of_cover 4 _ (fun t _ => flushed0 V c t) cover0

end Cert.KernelIdeal.Hand

end
-- ==== Proof.Decoder.lean ====
/-
  What one block of the kernel's second pipelined part computes, read at an index: the bilinear score of a row of user
  outputs and the same row of item outputs under each of the two bases, combined with the combination weights.
-/
module

public import proofs.«01_k».proof.Proof.Gen.KernelIdeal.Skeleton
public import Idealize.ShloMosaic.Lib.ValueIdx
public import Idealize.ShloMosaic.Lib.MatmulPlain
public import Idealize.ShloMosaic.Lib.KernelVsHost
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.ValueIdx
open scoped BigOperators

/-- The bilinear score of the rows `u` and `v` under the matrix `P`. -/
def score (u v : Fin 64 → EReal) (P : Fin 64 → Fin 64 → EReal) : EReal := ∑ k : Fin 64, (∑ l : Fin 64, u l * P l k) * v k

/-- A basis matrix's product with the rows, multiplied by the other rows and summed along them, is the score. -/
theorem score_apply (v0 v2 : FVec Ideal S2000x64 .f32) (p : FVec Ideal S1x64x64 .f32) (r : Fin 2000) :
    multiReduction .add [1] S2000 (mulf (matmul dot_S2000x64_S64x64_S2000x64_1_0_0_1_n_n none v0
        (shapeCast S64x64 p shapeCasts_S1x64x64_S64x64) (constant S2000x64 .f32 0x00000000#32)) v2)
      0x00000000#32 reduces_S2000x64_S2000 (.inl rfl) rfl (ix1 r)
    = score (fun k => v0 (ix2 r k)) (fun k => v2 (ix2 r k)) (fun l k => p (ix3 (0 : Fin 1) l k)) := by
  have hz : ∀ j, constant (F := Ideal) S2000x64 .f32 0x00000000#32 j = 0 := fun j => Ideal.ofBits_zero_f32
  refine (Ideal.multiReduction_add_single _ _ reduces_S2000x64_S2000 _ _ (ix1 r)).trans ?_
  unfold score
  refine Finset.sum_congr rfl fun (k : Fin 64) _ => ?_
  have el : (reduces_S2000x64_S2000 : S2000x64.Reduces [1] S2000).lift (ix1 r) k = ix2 r k := by
    funext a; apply Fin.ext
    match a with
    | ⟨0, _⟩ => rfl
    | ⟨1, _⟩ => rfl
  rw [el]
  show (matmul dot_S2000x64_S64x64_S2000x64_1_0_0_1_n_n none v0
        (shapeCast S64x64 p shapeCasts_S1x64x64_S64x64) (constant S2000x64 .f32 0x00000000#32) : FVec Ideal S2000x64 .f32) (ix2 r k) * v2 (ix2 r k) = _
  congr 1
  refine (Ideal.matmul_plain_apply (M := 2000) (K := 64) (N := 64) none v0 _ _ r k).trans ?_
  rw [hz, zero_add]
  refine Finset.sum_congr rfl fun l _ => ?_
  congr 1
  refine shapeCast_apply p shapeCasts_S1x64x64_S64x64 (ix2 l k) (ix3 (0 : Fin 1) l k) ?_
  rw [Shape.rowMajor_val_two, Shape.rowMajor_val_three]
  show (0 * 64 + l.val) * 64 + k.val = l.val * 64 + k.val
  omega

/-- The block's payload at (r, c): the two scores of row r, each times its combination weight of column c, summed. -/
theorem k1_pay1_apply (v0 v2 : Vec Ideal S2000x64 .f32) (v4 v10 : Vec Ideal S1x64x64 .f32) (v16 v21 : Vec Ideal S1x8 .f32)
    (r : Fin 2000) (c : Fin 8) :
    k1_pay1 v0 v2 v4 v10 v16 v21 (ix2 r c)
      = score (fun k => v0 (ix2 r k)) (fun k => v2 (ix2 r k)) (fun l k => v4 (ix3 (0 : Fin 1) l k)) * v16 (ix2 (0 : Fin 1) c)
        + score (fun k => v0 (ix2 r k)) (fun k => v2 (ix2 r k)) (fun l k => v10 (ix3 (0 : Fin 1) l k)) * v21 (ix2 (0 : Fin 1) c) := by
  have hcol : ∀ (x : FVec Ideal S2000 .f32), broadcastTo S2000x8 (shapeCast S2000x1 x shapeCasts_S2000_S2000x1) broadcasts_S2000x1_S2000x8 (ix2 r c)
      = x (ix1 r) := fun x => by
    refine (broadcastTo_apply _ _ _ (ix2 r (0 : Fin 1)) (by intro a; match a with | ⟨0, _⟩ => rfl | ⟨1, _⟩ => rfl)).trans ?_
    refine shapeCast_apply x _ _ (ix1 r) ?_
    rw [Shape.rowMajor_val_two, Shape.rowMajor_val_one]
    show r.val = r.val * 1 + 0
    omega
  have hrow : ∀ (x : FVec Ideal S1x8 .f32), broadcastTo S2000x8 x broadcasts_S1x8_S2000x8 (ix2 r c) = x (ix2 (0 : Fin 1) c) := fun x =>
    broadcastTo_apply _ _ _ _ (by intro a; match a with | ⟨0, _⟩ => rfl | ⟨1, _⟩ => rfl)
  unfold k1_pay1
  simp only [shapeCast_self]
  show _ * _ + _ * _ = _
  rw [hcol, hcol, hrow, hrow, score_apply, score_apply]

end Cert.KernelIdeal.Hand

end
-- ==== Proof.DecoderArray.lean ====
/-
  What the kernel's second pipelined part leaves in its output array: every row of the array is the combination of the
  two scores of the same rows of the two input arrays.  The 100 blocks of 2000 rows tile the 200000 rows.
-/
module

public import proofs.«01_k».proof.Proof.Decoder
public import proofs.«01_k».proof.Proof.LayerArray
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The combined score of the rows `u` and `v` at column c: the score under each basis times its combination weight. -/
def mix (u v : Fin 64 → EReal) (P : S2x64x64.Idx → EReal) (cw : S2x8.Idx → EReal) (c : Fin 8) : EReal :=
  score u v (fun l k => P (ix3 (0 : Fin 2) l k)) * cw (ix2 (0 : Fin 2) c)
    + score u v (fun l k => P (ix3 (1 : Fin 2) l k)) * cw (ix2 (1 : Fin 2) c)

/-- The combined scores of every pair of rows, as an array. -/
def mixArr (x y : S200000x64.Idx → EReal) (P : S2x64x64.Idx → EReal) (cw : S2x8.Idx → EReal) : S200000x8.Idx → EReal :=
  fun i => mix (fun k => x (ix2 (⟨(i 0).val, (i 0).isLt⟩ : Fin 200000) k)) (fun k => y (ix2 (⟨(i 0).val, (i 0).isLt⟩ : Fin 200000) k)) P cw
    ⟨(i 1).val, (i 1).isLt⟩

/-- The block indices at a grid point: the row blocks follow the point, the others stay at zero. -/
theorem idx1 : ∀ t : Fin grid1.N, win1_0.index t 0 = t.val ∧ win1_0.index t 1 = 0 ∧ win1_1.index t 0 = t.val ∧ win1_1.index t 1 = 0
    ∧ win1_2.index t 0 = 0 ∧ win1_2.index t 1 = 0 ∧ win1_2.index t 2 = 0 ∧ win1_3.index t 0 = 0 ∧ win1_3.index t 1 = 0
    ∧ win1_4.index t 0 = t.val ∧ win1_4.index t 1 = 0 := by decide +kernel

/-- The extents of the output block at a grid point. -/
theorem ext1 : ∀ t : Fin grid1.N, win1_4.xsize (grid1.coords t) 0 = 2000 ∧ win1_4.xsize (grid1.coords t) 1 = 8 := by decide +kernel

/-- Row r of the user block at point t is row 2000 t + r of the array. -/
theorem iblk1_0_apply (c : Dev nD) (t : Fin cfg1.N) (r : Fin 2000) (q : Fin 64) (n : Fin 200000) (hn : n.val = t.val * 2000 + r.val) :
    iblk1 V c 0 t (ix2 r q) = V c main_v86 (ix2 n q) := by
  have e := idx1 t
  show V c main_v86 (((cfg1.win 0).blk t).view.emb (ix2 r q)) = _
  refine congrArg (V c main_v86) (funext fun a => Fin.ext ?_)
  match a with
  | ⟨0, _⟩ => show win1_0.index t 0 * 2000 + 1 * r.val = n.val; rw [e.1]; omega
  | ⟨1, _⟩ => show win1_0.index t 1 * 64 + 1 * q.val = q.val; rw [e.2.1]; omega

/-- Row r of the item block at point t is row 2000 t + r of the array. -/
theorem iblk1_1_apply (c : Dev nD) (t : Fin cfg1.N) (r : Fin 2000) (q : Fin 64) (n : Fin 200000) (hn : n.val = t.val * 2000 + r.val) :
    iblk1 V c 1 t (ix2 r q) = V c main_v93 (ix2 n q) := by
  have e := idx1 t
  show V c main_v93 (((cfg1.win 1).blk t).view.emb (ix2 r q)) = _
  refine congrArg (V c main_v93) (funext fun a => Fin.ext ?_)
  match a with
  | ⟨0, _⟩ => show win1_1.index t 0 * 2000 + 1 * r.val = n.val; rw [e.2.2.1]; omega
  | ⟨1, _⟩ => show win1_1.index t 1 * 64 + 1 * q.val = q.val; rw [e.2.2.2.1]; omega

/-- The basis matrices' block is the whole array. -/
theorem iblk1_2_eq (c : Dev nD) (t : Fin cfg1.N) : iblk1 V c 2 t = V c main_arg10 := by
  have e := idx1 t
  funext j
  show V c main_arg10 (((cfg1.win 2).blk t).view.emb j) = _
  refine congrArg (V c main_arg10) (funext fun a => Fin.ext ?_)
  match a with
  | ⟨0, _⟩ => show win1_2.index t 0 * 2 + 1 * (j 0).val = (j 0).val; rw [e.2.2.2.2.1]; omega
  | ⟨1, _⟩ => show win1_2.index t 1 * 64 + 1 * (j 1).val = (j 1).val; rw [e.2.2.2.2.2.1]; omega
  | ⟨2, _⟩ => show win1_2.index t 2 * 64 + 1 * (j 2).val = (j 2).val; rw [e.2.2.2.2.2.2.1]; omega

/-- The combination weights' block is the whole array. -/
theorem iblk1_3_eq (c : Dev nD) (t : Fin cfg1.N) : iblk1 V c 3 t = V c main_v96 := by
  have e := idx1 t
  funext j
  show V c main_v96 (((cfg1.win 3).blk t).view.emb j) = _
  refine congrArg (V c main_v96) (funext fun a => Fin.ext ?_)
  match a with
  | ⟨0, _⟩ => show win1_3.index t 0 * 2 + 1 * (j 0).val = (j 0).val; rw [e.2.2.2.2.2.2.2.1]; omega
  | ⟨1, _⟩ => show win1_3.index t 1 * 8 + 1 * (j 1).val = (j 1).val; rw [e.2.2.2.2.2.2.2.2.1]; omega

/-- The first basis matrix as loaded is the array's first. -/
theorem ld1_1 (P : Vec Ideal S2x64x64 .f32) (l k : Fin 64) :
    View.ld P r1_1 (ix3 (0 : Fin 1) l k) = P (ix3 (0 : Fin 2) l k) := by
  refine congrArg P (funext fun a => Fin.ext ?_)
  match a with
  | ⟨0, _⟩ => rfl
  | ⟨1, _⟩ => show 0 + 1 * l.val = l.val; omega
  | ⟨2, _⟩ => show 0 + 1 * k.val = k.val; omega

/-- The second basis matrix as loaded is the array's second. -/
theorem ld1_2 (P : Vec Ideal S2x64x64 .f32) (l k : Fin 64) :
    View.ld P r1_2 (ix3 (0 : Fin 1) l k) = P (ix3 (1 : Fin 2) l k) := by
  refine congrArg P (funext fun a => Fin.ext ?_)
  match a with
  | ⟨0, _⟩ => rfl
  | ⟨1, _⟩ => show 0 + 1 * l.val = l.val; omega
  | ⟨2, _⟩ => show 0 + 1 * k.val = k.val; omega

/-- The first row of combination weights as loaded is the array's first. -/
theorem ld1_3 (cw : Vec Ideal S2x8 .f32) (k : Fin 8) :
    View.ld cw r1_3 (ix2 (0 : Fin 1) k) = cw (ix2 (0 : Fin 2) k) := by
  refine congrArg cw (funext fun a => Fin.ext ?_)
  match a with
  | ⟨0, _⟩ => rfl
  | ⟨1, _⟩ => show 0 + 1 * k.val = k.val; omega

/-- The second row of combination weights as loaded is the array's second. -/
theorem ld1_4 (cw : Vec Ideal S2x8 .f32) (k : Fin 8) :
    View.ld cw r1_4 (ix2 (0 : Fin 1) k) = cw (ix2 (1 : Fin 2) k) := by
  refine congrArg cw (funext fun a => Fin.ext ?_)
  match a with
  | ⟨0, _⟩ => rfl
  | ⟨1, _⟩ => show 0 + 1 * k.val = k.val; omega

/-- What point t writes back is its block of the combined scores. -/
theorem flushed1 (c : Dev nD) (t : Fin cfg1.N) :
    (dat1 V c).flushed 4 t = (win1_4.blk t).view.read (Elt Ideal)
      (mixArr (V c main_v86) (V c main_v93) (V c main_arg10) (V c main_v96)) := by
  have e := idx1 t
  show (cfg1.win 4).cut (grid1.coords t) ((dat1 V c).after 4 t) = _
  rw [after1_4]
  unfold out1_4
  rw [View.canon_unit_zero off2, View.ld_unit_zero off2, View.ld_unit_zero off2, iblk1_2_eq, iblk1_3_eq]
  funext j
  have hj0 : (j 0).val < 2000 := (ext1 t).1 ▸ (j 0).isLt
  have hj1 : (j 1).val < 8 := (ext1 t).2 ▸ (j 1).isLt
  have ht : t.val < 100 := t.isLt
  have e4 : (win1_4.blk t).view.emb j = ix2 (⟨t.val * 2000 + (j 0).val, by omega⟩ : Fin 200000) (⟨(j 1).val, hj1⟩ : Fin 8) := by
    funext a; apply Fin.ext
    match a with
    | ⟨0, _⟩ => show win1_4.index t 0 * 2000 + 1 * (j 0).val = t.val * 2000 + (j 0).val; rw [e.2.2.2.2.2.2.2.2.2.1]; omega
    | ⟨1, _⟩ => show win1_4.index t 1 * 8 + 1 * (j 1).val = (j 1).val; rw [e.2.2.2.2.2.2.2.2.2.2]; omega
  have ej : (j : S2000x8.Idx) = ix2 (⟨(j 0).val, hj0⟩ : Fin 2000) (⟨(j 1).val, hj1⟩ : Fin 8) := eq_ix2 _
  show k1_pay1 (iblk1 V c 0 t) (iblk1 V c 1 t) (View.ld (V c main_arg10) r1_1) (View.ld (V c main_arg10) r1_2)
      (View.ld (V c main_v96) r1_3) (View.ld (V c main_v96) r1_4) j
    = mixArr (V c main_v86) (V c main_v93) (V c main_arg10) (V c main_v96) ((win1_4.blk t).view.emb j)
  rw [e4]
  refine (congrArg (k1_pay1 (iblk1 V c 0 t) (iblk1 V c 1 t) (View.ld (V c main_arg10) r1_1) (View.ld (V c main_arg10) r1_2)
      (View.ld (V c main_v96) r1_3) (View.ld (V c main_v96) r1_4)) ej).trans ((k1_pay1_apply _ _ _ _ _ _ _ _).trans ?_)
  have e1 : (fun q => iblk1 V c 0 t (ix2 (⟨(j 0).val, hj0⟩ : Fin 2000) q))
      = fun q => V c main_v86 (ix2 (⟨t.val * 2000 + (j 0).val, by omega⟩ : Fin 200000) q) :=
    funext fun q => iblk1_0_apply V c t _ q _ rfl
  have e2 : (fun q => iblk1 V c 1 t (ix2 (⟨(j 0).val, hj0⟩ : Fin 2000) q))
      = fun q => V c main_v93 (ix2 (⟨t.val * 2000 + (j 0).val, by omega⟩ : Fin 200000) q) :=
    funext fun q => iblk1_1_apply V c t _ q _ rfl
  unfold mixArr mix
  rw [e1, e2]
  exact congrArg₂ (· + ·)
    (congrArg₂ (· * ·) (congrArg (score _ _) (funext fun l => funext fun k => ld1_1 (V c main_arg10) l k)) (ld1_3 (V c main_v96) _))
    (congrArg₂ (· * ·) (congrArg (score _ _) (funext fun l => funext fun k => ld1_2 (V c main_arg10) l k)) (ld1_4 (V c main_v96) _))

/-- An index of the output array is in point t's block when its row is in the block's 2000 rows. -/
theorem mem_blk1 (t : Fin cfg1.N) (i : S200000x8.Idx) :
    i ∈ ((cfg1.win 4).blk t).view.set ↔ t.val * 2000 ≤ (i 0 : Nat) ∧ (i 0 : Nat) < t.val * 2000 + 2000 := by
  have e := idx1 t
  have x := ext1 t
  show i ∈ ((View.whole main_v97).slice (win1_4.rect t)).set ↔ _
  rw [View.set_slice_whole, Rect.mem_set_unit]
  have h1 : (i 1 : Nat) < 8 := (i 1).isLt
  refine ⟨fun h => ?_, fun h a => ?_⟩
  · have : win1_4.index t 0 * 2000 ≤ (i 0 : Nat) ∧ (i 0 : Nat) < win1_4.index t 0 * 2000 + win1_4.xsize (grid1.coords t) 0 := h 0
    rw [e.2.2.2.2.2.2.2.2.2.1, x.1] at this; exact this
  · match a with
    | ⟨0, _⟩ => show win1_4.index t 0 * 2000 ≤ (i 0 : Nat) ∧ (i 0 : Nat) < win1_4.index t 0 * 2000 + win1_4.xsize (grid1.coords t) 0
                rw [e.2.2.2.2.2.2.2.2.2.1, x.1]; exact h
    | ⟨1, _⟩ => show win1_4.index t 1 * 8 ≤ (i 1 : Nat) ∧ (i 1 : Nat) < win1_4.index t 1 * 8 + win1_4.xsize (grid1.coords t) 1
                rw [e.2.2.2.2.2.2.2.2.2.2, x.2]; omega

/-- The blocks cover the output array. -/
theorem cover1 (i : S200000x8.Idx) : ∃ t : Fin cfg1.N, (cfg1.win 4).flush t = true ∧ i ∈ ((cfg1.win 4).blk t).view.set := by
  have h0 : (i 0 : Nat) < 200000 := (i 0).isLt
  have ht : (i 0 : Nat) / 2000 < 100 := by omega
  refine ⟨⟨(i 0 : Nat) / 2000, ht⟩, flush1_4 _, ?_⟩
  rw [mem_blk1]
  dsimp only
  omega

/-- After the second pipelined part the output array holds the combined scores of every pair of rows. -/
theorem final1 (c : Dev nD) : (dat1 V c).arrAt 4 cfg1.N
    = mixArr (V c main_v86) (V c main_v93) (V c main_arg10) (V c main_v96) :=
  (dat1 V c).arrAt_eq_of_cover 4 _ (fun t _ => flushed1 V c t) cover1

end Cert.KernelIdeal.Hand

end
-- ==== Proof.KernelResult.lean ====
/-
  The result of the idealized kernel program, as one term of its arguments: the layer of the prepared rows, its two
  halves read by the decoder's edges, and the scores mixed by the (filled up) mixing weights.
-/
module

public import proofs.«01_k».proof.Proof.KernelHost
public import proofs.«01_k».proof.Proof.LayerArray
public import proofs.«01_k».proof.Proof.DecoderArray

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

/-- The layer's output on all rows: users first, then items. -/
def outAll : FVec Ideal S50000x64 .f32 :=
  layerArr (rowsAll m c) (shapeCast S640x128 (arg m c main_arg7) shapeCasts_S5x128x128_S640x128) (arg m c main_arg8)
    (broadcastInDim S8x64 ![0, 1] bcast_S1x64_S8x64_0_1 (broadcastInDim S1x64 ![1] bcast_S64_S1x64_1 (arg m c main_arg9)))

/-- The users' part of the output. -/
def outU : FVec Ideal S25000x64 .f32 := extractStridedSlice S25000x64 ![0, 0] (outAll m c) slices_S50000x64_S25000x64_0_0
/-- The items' part of the output. -/
def outI : FVec Ideal S25000x64 .f32 := extractStridedSlice S25000x64 ![25000, 0] (outAll m c) slices_S50000x64_S25000x64_25000_0

theorem W6_v77 : W6 m ρ c (Proc.devRef .tc main_v77) = outAll m c := by
  refine (W6_arr m ρ c 4).trans ((final0 (V5 m ρ) c).trans ?_)
  have h76 : V5 m ρ c main_v76 = rowsAll m c := W5_v76 m ρ c
  have h73 : V5 m ρ c main_v73 = _ := W5_v73 m ρ c
  have h75 : V5 m ρ c main_v75 = _ := W5_v75 m ρ c
  have h8 : V5 m ρ c main_arg8 = arg m c main_arg8 := W5_args m ρ c main_arg8 (by decide)
  rw [h76, h73, h75, h8]
  rfl

/-- The kernel program's result array is the first five columns of the mixed scores. -/
theorem result : W9 m ρ c (Proc.devRef .tc main_v98)
    = extractStridedSlice S200000x5 ![0, 0]
        (mixArr (kTake (F := Ideal) (outU m c) (arg m c main_arg5)) (kTake (F := Ideal) (outI m c) (arg m c main_arg6)) (arg m c main_arg10) (kMix (F := Ideal) (arg m c main_arg11)))
        slices_S200000x8_S200000x5_0_0 := by
  refine (opsC_v98 (W8 m ρ c)).trans ?_
  have h97 : W8 m ρ c (Proc.devRef .tc main_v97) = _ := (W8_arr m ρ c 4).trans (final1 (V7 m ρ) c)
  have h86 : V7 m ρ c main_v86 = kTake (outU m c) (arg m c main_arg5) := by
    refine (W7_v86 m ρ c).trans ?_
    rw [W6_v77]; rfl
  have h93 : V7 m ρ c main_v93 = kTake (outI m c) (arg m c main_arg6) := by
    refine (W7_v93 m ρ c).trans ?_
    rw [W6_v77]; rfl
  have h96 : V7 m ρ c main_v96 = kMix (arg m c main_arg11) := W7_v96 m ρ c
  have h10 : V7 m ρ c main_arg10 = arg m c main_arg10 := W7_args m ρ c main_arg10 (by decide)
  rw [h97, h86, h93, h96, h10]

end Cert.KernelIdeal.Hand

end
-- ==== Proof.ScatterRead.lean ====
/-
  How an accumulating scatter reads: when every index word is the number of a row of the operand, an update is added to
  exactly that row, so an entry of the result is the operand's entry plus the sum of the updates whose row it is.
-/
module

public import Idealize.ShloMosaic.Lib.Routing.OpsSet
public import Idealize.ShloMosaic.Lib.Routing.OpsPair
public import Idealize.ShloMosaic.Lib.IdealHost
public import Idealize.ShloMosaic.Lib.Pipeline.Value

@[expose] public section

set_option maxRecDepth 16384

noncomputable section

namespace Cert.KernelIdeal.Hand

open Idealize.ShloMosaic Idealize.ShloMosaic.ValueIdx
open scoped BigOperators

/-- Rank one: update `e` lands at entry `k` when the word at `(e, 0)` is `k`. -/
theorem lands1 {N n : Nat} (d : ScatterDims ⟨1, ![N]⟩ ⟨2, ![n, 1]⟩ ⟨1, ![n]⟩) (hiw : d.insertedWindowDims = [0])
    (hsd : d.scatterDimsToOperandDims = [0]) (hivd : d.indexVectorDim = 1) (idx : IVec ⟨2, ![n, 1]⟩ 32) (e : Fin n) (k : Fin N)
    (hk : idx (ix2 e (0 : Fin 1)) = BitVec.ofNat 32 k.val) (hN : N < 2 ^ 31) :
    d.resultIdx? (ix1 e) idx = some (ix1 k) := by
  have hkl := k.isLt
  have hm : (0 : Fin 1) ∈ d.scatterDimsToOperandDims := by rw [hsd]; exact List.mem_singleton.2 rfl
  have hwin : d.window (ix1 e) 0 = 0 := by
    unfold ScatterDims.window
    exact dif_neg fun h => (of_decide_eq_true (List.mem_filter.1 h).2) (by rw [hiw]; exact List.mem_singleton.2 rfl)
  have hsi : d.siIdx (ix1 e) ⟨d.scatterDimsToOperandDims.idxOf 0, List.idxOf_lt_length_iff.2 hm⟩ = ix2 e (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      have h : ∀ X : Fin 1, (ix1 e X).val = e.val := fun X => by obtain rfl := Fin.fin_one_eq_zero X; rfl
      exact h _
    | ⟨1, _⟩ =>
      unfold ScatterDims.siIdx
      rw [dif_pos (by rw [hivd])]
      show List.idxOf (0 : Fin 1) d.scatterDimsToOperandDims = 0
      rw [hsd]; simp
  have hst : d.start (ix1 e) idx 0 = (k.val : Int) := by
    unfold ScatterDims.start
    rw [dif_pos hm, hsi, hk, StableHlo.Predicate.toInt_ofNat_small _ (by omega)]
  have hall : ∀ a : Fin 1, d.start (ix1 e) idx a + d.window (ix1 e) a = (k.val : Int) := fun a => by
    obtain rfl := Fin.fin_one_eq_zero a
    rw [hst, hwin]; omega
  unfold ScatterDims.resultIdx?
  have hc : ∀ a : Fin 1, 0 ≤ d.start (ix1 e) idx a + d.window (ix1 e) a
      ∧ d.start (ix1 e) idx a + d.window (ix1 e) a < (⟨1, ![N]⟩ : Shape).size a := fun a => by
    rw [hall a]; obtain rfl := Fin.fin_one_eq_zero a
    exact ⟨by omega, by show (k.val : Int) < (N : Int); omega⟩
  rw [dif_pos hc]
  refine congrArg some (funext fun a => Fin.ext ?_)
  show (d.start (ix1 e) idx a + d.window (ix1 e) a).toNat = _
  rw [hall a]; obtain rfl := Fin.fin_one_eq_zero a
  show ((k.val : Int)).toNat = k.val
  omega

/-- Rank two: entry `y` of update `e` lands at entry `y` of row `k` when the word at `(e, 0)` is `k`. -/
theorem lands2 {N B n : Nat} (d : ScatterDims ⟨2, ![N, B]⟩ ⟨2, ![n, 1]⟩ ⟨2, ![n, B]⟩) (huw : d.updateWindowDims = [1])
    (hiw : d.insertedWindowDims = [0]) (hsd : d.scatterDimsToOperandDims = [0]) (hivd : d.indexVectorDim = 1)
    (idx : IVec ⟨2, ![n, 1]⟩ 32) (e : Fin n) (y : Fin B) (k : Fin N)
    (hk : idx (ix2 e (0 : Fin 1)) = BitVec.ofNat 32 k.val) (hN : N < 2 ^ 31) :
    d.resultIdx? (ix2 e y) idx = some (ix2 k y) := by
  have hkl := k.isLt
  have hyl := y.isLt
  have hm : (0 : Fin 2) ∈ d.scatterDimsToOperandDims := by rw [hsd]; exact List.mem_singleton.2 rfl
  have h10 : (1 : Fin 2) ≠ 0 := by decide
  have hm1 : (1 : Fin 2) ∉ d.scatterDimsToOperandDims := by rw [hsd]; exact fun h => h10 (List.mem_singleton.1 h)
  have e0 : ∀ X : Fin 2, X = 0 → (ix2 e y X).val = e.val := fun X h => by subst h; rfl
  have e1 : ∀ X : Fin 2, X = 1 → (ix2 e y X).val = y.val := fun X h => by subst h; rfl
  have hus : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have huk : ∀ k ∈ d.updateWindowDims, k = (1 : Fin 2) := fun k hk => by rw [huw] at hk; exact List.mem_singleton.1 hk
  have hwin0 : d.window (ix2 e y) 0 = 0 := by
    unfold ScatterDims.window
    exact dif_neg fun h => (of_decide_eq_true (List.mem_filter.1 h).2) (by rw [hiw]; exact List.mem_singleton.2 rfl)
  have hwin1 : d.window (ix2 e y) 1 = y.val := by
    unfold ScatterDims.window
    have hin : (1 : Fin 2) ∈ d.sKept := List.mem_filter.2 ⟨List.mem_finRange _, decide_eq_true (by rw [hiw]; exact fun h => h10 (List.mem_singleton.1 h))⟩
    rw [dif_pos hin]
    exact e1 _ (huk _ (List.getElem_mem _))
  have hsi : d.siIdx (ix2 e y) ⟨d.scatterDimsToOperandDims.idxOf 0, List.idxOf_lt_length_iff.2 hm⟩ = ix2 e (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hst0 : d.start (ix2 e y) idx 0 = (k.val : Int) := by
    unfold ScatterDims.start
    rw [dif_pos hm, hsi, hk, StableHlo.Predicate.toInt_ofNat_small _ (by omega)]
  have hst1 : d.start (ix2 e y) idx 1 = 0 := by
    unfold ScatterDims.start
    exact dif_neg hm1
  have hall : ∀ a : Fin 2, d.start (ix2 e y) idx a + d.window (ix2 e y) a = ((ix2 k y a).val : Int) := fun a => by
    match a with
    | ⟨0, _⟩ => show d.start (ix2 e y) idx 0 + d.window (ix2 e y) 0 = (k.val : Int); rw [hst0, hwin0]; omega
    | ⟨1, _⟩ => show d.start (ix2 e y) idx 1 + d.window (ix2 e y) 1 = (y.val : Int); rw [hst1, hwin1]; omega
  unfold ScatterDims.resultIdx?
  have hc : ∀ a : Fin 2, 0 ≤ d.start (ix2 e y) idx a + d.window (ix2 e y) a
      ∧ d.start (ix2 e y) idx a + d.window (ix2 e y) a < (⟨2, ![N, B]⟩ : Shape).size a := fun a => by
    rw [hall a]
    exact ⟨by omega, by have := (ix2 k y a).isLt; omega⟩
  rw [dif_pos hc]
  refine congrArg some (funext fun a => Fin.ext ?_)
  show (d.start (ix2 e y) idx a + d.window (ix2 e y) a).toNat = _
  rw [hall a]
  omega

/-- An accumulating scatter of scalars, read at entry `p`: the operand's entry plus the updates whose entry is `p`. -/
theorem scatterAdd1_apply {N n : Nat} (d : ScatterDims ⟨1, ![N]⟩ ⟨2, ![n, 1]⟩ ⟨1, ![n]⟩) (hiw : d.insertedWindowDims = [0])
    (hsd : d.scatterDimsToOperandDims = [0]) (hivd : d.indexVectorDim = 1) (x : FVec Ideal ⟨1, ![N]⟩ .f32) (idx : IVec ⟨2, ![n, 1]⟩ 32)
    (upd : FVec Ideal ⟨1, ![n]⟩ .f32) (k : Fin n → Fin N) (hk : ∀ e, idx (ix2 e (0 : Fin 1)) = BitVec.ofNat 32 (k e).val)
    (hN : N < 2 ^ 31) (p : Fin N) :
    Host.scatterAdd d x idx upd (ix1 p) = x (ix1 p) + ∑ e : Fin n, if k e = p then upd (ix1 e) else (0 : EReal) := by
  refine (show Host.scatterAdd d x idx upd (ix1 p)
    = x (ix1 p) + ∑ j ∈ Finset.univ.filter (fun j => d.resultIdx? j idx = some (ix1 p)), upd j from rfl).trans ?_
  refine congrArg (x (ix1 p) + ·) ?_
  rw [Finset.sum_filter]
  refine (Fintype.sum_equiv (⟨fun e => ix1 e, fun j => j 0, fun _ => rfl, fun j => (eq_ix1 j).symm⟩ : Fin n ≃ (⟨1, ![n]⟩ : Shape).Idx) _ _ fun e => ?_).symm
  show (if k e = p then upd (ix1 e) else (0 : EReal)) = if d.resultIdx? (ix1 e) idx = some (ix1 p) then upd (ix1 e) else 0
  rw [lands1 d hiw hsd hivd idx e (k e) (hk e) hN]
  by_cases h : k e = p
  · rw [if_pos h, if_pos (by rw [h])]
  · rw [if_neg h, if_neg fun c => h (congrFun (Option.some.inj c) 0)]

/-- An accumulating scatter of rows, read at entry `(p, y)`: the operand's entry plus the rows' `y`-th entries over the
    rows that go to `p`. -/
theorem scatterAdd2_apply {N B n : Nat} (d : ScatterDims ⟨2, ![N, B]⟩ ⟨2, ![n, 1]⟩ ⟨2, ![n, B]⟩) (huw : d.updateWindowDims = [1])
    (hiw : d.insertedWindowDims = [0]) (hsd : d.scatterDimsToOperandDims = [0]) (hivd : d.indexVectorDim = 1)
    (x : FVec Ideal ⟨2, ![N, B]⟩ .f32) (idx : IVec ⟨2, ![n, 1]⟩ 32)
    (upd : FVec Ideal ⟨2, ![n, B]⟩ .f32) (k : Fin n → Fin N) (hk : ∀ e, idx (ix2 e (0 : Fin 1)) = BitVec.ofNat 32 (k e).val)
    (hN : N < 2 ^ 31) (p : Fin N) (y : Fin B) :
    Host.scatterAdd d x idx upd (ix2 p y) = x (ix2 p y) + ∑ e : Fin n, if k e = p then upd (ix2 e y) else (0 : EReal) := by
  refine (show Host.scatterAdd d x idx upd (ix2 p y)
    = x (ix2 p y) + ∑ j ∈ Finset.univ.filter (fun j => d.resultIdx? j idx = some (ix2 p y)), upd j from rfl).trans ?_
  refine congrArg (x (ix2 p y) + ·) ?_
  rw [Finset.sum_filter]
  refine (Fintype.sum_equiv (idxEquiv2 (n0 := n) (n1 := B)) _ (fun q : Fin n × Fin B => if d.resultIdx? (ix2 q.1 q.2) idx = some (ix2 p y) then upd (ix2 q.1 q.2) else 0) fun j => ?_).trans ?_
  · have h : j = ix2 (j 0) (j 1) := eq_ix2 j
    exact congrArg (fun q => if d.resultIdx? q idx = some (ix2 p y) then upd q else 0) h
  rw [Fintype.sum_prod_type]
  refine Finset.sum_congr rfl fun e _ => ?_
  have hz : ∀ y' : Fin B, (if d.resultIdx? (ix2 e y') idx = some (ix2 p y) then upd (ix2 e y') else (0 : EReal))
      = if y' = y then (if k e = p then upd (ix2 e y) else 0) else 0 := fun y' => by
    rw [lands2 d huw hiw hsd hivd idx e y' (k e) (hk e) hN]
    by_cases h : k e = p
    · by_cases h' : y' = y
      · subst h'; rw [if_pos (by rw [h]), if_pos rfl, if_pos h]
      · rw [if_neg fun c => h' (congrFun (Option.some.inj c) 1), if_neg h']
    · rw [if_neg fun c => h (congrFun (Option.some.inj c) 0)]
      by_cases h' : y' = y
      · rw [if_pos h', if_neg h]
      · rw [if_neg h']
  rw [Finset.sum_congr rfl fun y' _ => hz y']
  exact (Finset.sum_ite_eq' Finset.univ y _).trans (if_pos (Finset.mem_univ y))

end Cert.KernelIdeal.Hand

end
-- ==== Proof.ColumnRead.lean ====
/-
  Small reads that the two programs' edge arrays share: an edge vector as a column, a column repeated along the rows,
  and row numbers that are not negative left as they are.
-/
module

public import Idealize.ShloMosaic.Lib.Routing.OpsPair
public import Idealize.ShloMosaic.Lib.IdealHost
public import Idealize.ShloMosaic.Lib.Pipeline.Value

@[expose] public section

set_option maxRecDepth 16384

noncomputable section

namespace Cert.Hand

open Idealize.ShloMosaic Idealize.ShloMosaic.ValueIdx

/-- A vector as a column holds at `(e, 0)` the vector's entry `e`. -/
theorem col_apply {α : Type} {n : Nat} (hn : n ≠ 1) (h : (⟨1, ![n]⟩ : Shape).BroadcastsInDim ⟨2, ![n, 1]⟩ ![0])
    (x : (⟨1, ![n]⟩ : Shape).Idx → α) (e : Fin n) : broadcastInDim ⟨2, ![n, 1]⟩ ![0] h x (ix2 e (0 : Fin 1)) = x (ix1 e) :=
  broadcastInDim_apply _ h x _ _ fun a => by
    obtain rfl := Fin.fin_one_eq_zero a
    exact (if_neg hn).symm

/-- A column repeated along the rows holds at `(e, k)` the column's entry `e`. -/
theorem rep_apply {α : Type} {n b : Nat} (hn : n ≠ 1) (h : (⟨2, ![n, 1]⟩ : Shape).BroadcastsInDim ⟨2, ![n, b]⟩ ![0, 1])
    (x : (⟨2, ![n, 1]⟩ : Shape).Idx → α) (e : Fin n) (k : Fin b) :
    broadcastInDim ⟨2, ![n, b]⟩ ![0, 1] h x (ix2 e k) = x (ix2 e (0 : Fin 1)) :=
  broadcastInDim_apply _ h x _ _ fun a => by
    match a with
    | ⟨0, _⟩ => exact (if_neg hn).symm
    | ⟨1, _⟩ => rfl

/-- A vector repeated along the rows holds at `(e, k)` the vector's entry `e`. -/
theorem colRep_apply {α : Type} {n b : Nat} (hn : n ≠ 1) (h : (⟨2, ![n, 1]⟩ : Shape).BroadcastsInDim ⟨2, ![n, b]⟩ ![0, 1])
    (h' : (⟨1, ![n]⟩ : Shape).BroadcastsInDim ⟨2, ![n, 1]⟩ ![0])
    (x : (⟨1, ![n]⟩ : Shape).Idx → α) (e : Fin n) (k : Fin b) :
    broadcastInDim ⟨2, ![n, b]⟩ ![0, 1] h (broadcastInDim ⟨2, ![n, 1]⟩ ![0] h' x) (ix2 e k) = x (ix1 e) :=
  (rep_apply hn h _ e k).trans (col_apply hn h' x e)

/-- A row number that is not negative is left as it is. -/
theorem wrap_ofNat (a : BitVec 32) (v : Nat) (h : v < 2 ^ 31) :
    Scalar.select (IntOp.cmpi .slt (BitVec.ofNat 32 v) 0#32) a (BitVec.ofNat 32 v) = BitVec.ofNat 32 v :=
  Routing.wrap_of_lt _ _ (by rw [BitVec.toNat_ofNat, Nat.mod_eq_of_lt (by omega)]; exact h)

end Cert.Hand

end
-- ==== Proof.GraphMath.lean ====
/-
  The arithmetic of one graph convolution over real numbers: degrees per node and rating, the symmetric normaliser, the
  normalised neighbourhood sum, and the fact that summing the features first and multiplying by the rating's weights
  afterwards gives the same hidden values as multiplying first and summing afterwards.
-/
module

public import Idealize.ShloMosaic.Lib.IdealHost
public import Idealize.ShloMosaic.Lib.Pipeline.Value

@[expose] public section

set_option maxRecDepth 16384

noncomputable section

namespace Cert.Hand

open Idealize.ShloMosaic
open scoped BigOperators

/-- A finite sum of reals, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a real and zero, read as an extended real. -/
theorem coe_ite (p : Prop) [Decidable p] (a : ℝ) : ((if p then a else 0 : ℝ) : EReal) = if p then (a : EReal) else 0 := by
  by_cases h : p
  · rw [if_pos h, if_pos h]
  · rw [if_neg h, if_neg h, EReal.coe_zero]

/-- The id of a node at a rating. -/
def nid (n : Fin 25000) (r : Fin 5) : Fin 125000 := ⟨5 * n.val + r.val, by have := n.isLt; have := r.isLt; omega⟩

/-- Two ids agree exactly when node and rating agree. -/
theorem nid_eq (n n' : Fin 25000) (r r' : Fin 5) : nid n r = nid n' r' ↔ n = n' ∧ r = r' := by
  have h1 := r.isLt
  have h2 := r'.isLt
  refine ⟨fun h => ?_, fun h => by rw [h.1, h.2]⟩
  have h3 : 5 * n.val + r.val = 5 * n'.val + r'.val := congrArg Fin.val h
  exact ⟨Fin.ext (by omega), Fin.ext (by omega)⟩

/-- The degree of node `n` at rating `r`: the number of edges whose end is `n` and whose rating is `r`. -/
def deg (s : Fin 400000 → Fin 25000) (g : Fin 400000 → Fin 5) (n : Fin 25000) (r : Fin 5) : ℝ :=
  ∑ e, if s e = n ∧ g e = r then (1 : ℝ) else 0

/-- The normaliser at degree `d`: the reciprocal square root of a positive degree (taken to be at least one), else zero. -/
def nrm (d : ℝ) : ℝ := if 0 < d then (Real.sqrt (max d 1))⁻¹ else 0

/-- The normaliser written with a reciprocal square root. -/
theorem nrm_rsqrt (d : ℝ) :
    Scalar.select (Ideal.cmp .ogt (d : EReal) (Ideal.ofBits .f32 0x00000000#32))
      (Ideal.rsqrt (max (d : EReal) (Ideal.ofBits .f32 0x3F800000#32))) (Ideal.ofBits .f32 0x00000000#32) = ((nrm d : ℝ) : EReal) := by
  have hm : max (d : EReal) (1 : EReal) = ((max d 1 : ℝ) : EReal) := by
    rw [← EReal.coe_one]; exact (EReal.coe_strictMono.monotone.map_max).symm
  have h1 : (1 : ℝ) ≤ max d 1 := le_max_right _ _
  rw [Ideal.ofBits_zero_f32, Ideal.ofBits_one_f32, hm, Ideal.rsqrt_coe, if_neg (by linarith), if_neg (by linarith)]
  unfold Scalar.select nrm Ideal.cmp
  by_cases h : 0 < d
  · have h' : (0 : EReal) < (d : EReal) := by exact_mod_cast h
    simp [h, h']
  · have h' : ¬ (0 : EReal) < (d : EReal) := by exact_mod_cast h
    simp [h, h']

/-- The normaliser written with one over a square root. -/
theorem nrm_div (d : ℝ) :
    Scalar.select (Ideal.cmp .ogt (d : EReal) (Ideal.ofBits .f32 0x00000000#32))
      (Ideal.div (Ideal.ofBits .f32 0x3F800000#32) (Ideal.sqrt (max (d : EReal) (Ideal.ofBits .f32 0x3F800000#32))))
      (Ideal.ofBits .f32 0x00000000#32) = ((nrm d : ℝ) : EReal) := by
  rw [← nrm_rsqrt d]
  refine congrArg (fun z => Scalar.select (Ideal.cmp .ogt (d : EReal) (Ideal.ofBits .f32 0x00000000#32)) z
    (Ideal.ofBits .f32 0x00000000#32)) ?_
  have hm : max (d : EReal) (1 : EReal) = ((max d 1 : ℝ) : EReal) := by
    rw [← EReal.coe_one]; exact (EReal.coe_strictMono.monotone.map_max).symm
  have h1 : (1 : ℝ) ≤ max d 1 := le_max_right _ _
  have hs : Real.sqrt (max d 1) ≠ 0 := (Real.sqrt_pos.2 (by linarith)).ne'
  rw [Ideal.ofBits_one_f32, hm, Ideal.rsqrt_coe, if_neg (by linarith), if_neg (by linarith), Ideal.sqrt_coe, if_neg (by linarith)]
  unfold Ideal.div
  rw [if_neg (by exact_mod_cast hs), one_mul, ← EReal.coe_inv]

/-- The normalised sum of the features of node `n`'s neighbours at rating `r`. -/
def agg (x : Fin 25000 → Fin 128 → ℝ) (s t : Fin 400000 → Fin 25000) (g : Fin 400000 → Fin 5) (n : Fin 25000) (r : Fin 5)
    (k : Fin 128) : ℝ :=
  (∑ e, if t e = n ∧ g e = r then x (s e) k * nrm (deg s g (s e) r) else 0) * nrm (deg t g n r)

/-- Node `n`'s hidden value at rating `r`: its normalised neighbourhood sum times the rating's weights. -/
def hidPart (x : Fin 25000 → Fin 128 → ℝ) (w : Fin 5 → Fin 128 → Fin 128 → ℝ) (s t : Fin 400000 → Fin 25000)
    (g : Fin 400000 → Fin 5) (n : Fin 25000) (r : Fin 5) (j : Fin 128) : ℝ :=
  ∑ k, agg x s t g n r k * w r k j

/-- Node `n`'s hidden value: the sum over the ratings. -/
def hid (x : Fin 25000 → Fin 128 → ℝ) (w : Fin 5 → Fin 128 → Fin 128 → ℝ) (s t : Fin 400000 → Fin 25000)
    (g : Fin 400000 → Fin 5) (n : Fin 25000) (j : Fin 128) : ℝ :=
  ∑ r, hidPart x w s t g n r j

/-- Over any edges and features: weighting each edge's features first and masking the edges afterwards is the same as
    summing the unmasked edges' features and weighting the sums. -/
theorem regroup {E K : Type} [Fintype E] [Fintype K] (p q : E → Prop) [DecidablePred p] [DecidablePred q] (x : E → K → ℝ)
    (w : K → ℝ) (c : E → ℝ) (d : ℝ) :
    (∑ e, if p e then (∑ k, x e k * w k) * (c e * (if q e then 1 else 0)) else 0) * d
      = ∑ k, ((∑ e, if p e ∧ q e then x e k * c e else 0) * d) * w k := by
  have h : ∀ k, (∑ e, if p e ∧ q e then x e k * c e else 0) * d * w k
      = (∑ e, if p e ∧ q e then x e k * c e * w k else 0) * d := fun k => by
    rw [mul_right_comm, Finset.sum_mul]
    refine congrArg (· * _) (Finset.sum_congr rfl fun e _ => ?_)
    by_cases h1 : p e ∧ q e
    · rw [if_pos h1, if_pos h1]
    · rw [if_neg h1, if_neg h1, zero_mul]
  rw [Finset.sum_congr rfl fun k _ => h k, ← Finset.sum_mul, Finset.sum_comm]
  refine congrArg (· * _) (Finset.sum_congr rfl fun e _ => ?_)
  by_cases h1 : p e
  · by_cases h2 : q e
    · simp only [h1, h2, and_self, if_true, mul_one]
      rw [Finset.sum_mul]
      exact Finset.sum_congr rfl fun k _ => by ring
    · simp [h1, h2]
  · simp [h1]

/-- Multiplying each feature row by the weights first, and masking the messages of other ratings, gives the same value. -/
theorem hidPart_eq (x : Fin 25000 → Fin 128 → ℝ) (w : Fin 5 → Fin 128 → Fin 128 → ℝ) (s t : Fin 400000 → Fin 25000)
    (g : Fin 400000 → Fin 5) (n : Fin 25000) (r : Fin 5) (j : Fin 128) :
    (∑ e, if t e = n then (∑ k, x (s e) k * w r k j) * (nrm (deg s g (s e) r) * (if g e = r then 1 else 0)) else 0) * nrm (deg t g n r)
      = hidPart x w s t g n r j :=
  regroup (fun e => t e = n) (fun e => g e = r) (fun e k => x (s e) k) (fun k => w r k j) (fun e => nrm (deg s g (s e) r)) _

/-- The 640 columns are the pairs of a rating and a feature, the rating first. -/
theorem sum_640 (f : Fin 640 → EReal) :
    ∑ q, f q = ∑ r : Fin 5, ∑ k : Fin 128, f ⟨128 * r.val + k.val, by have := r.isLt; have := k.isLt; omega⟩ := by
  rw [← Fintype.sum_prod_type' (f := fun (r : Fin 5) (k : Fin 128) => f ⟨128 * r.val + k.val, by have := r.isLt; have := k.isLt; omega⟩)]
  refine (Fintype.sum_equiv (finProdFinEquiv (m := 5) (n := 128)) _ _ fun p => ?_).symm
  exact congrArg f (Fin.ext (Nat.add_comm _ _))

end Cert.Hand

end
-- ==== Proof.KernelRead.lean ====
/-
  The kernel program's prepared rows, read at an index when the edge arrays hold node numbers and ratings: the row of a
  node holds, at column `128 * r + k`, the normalised neighbourhood sum of feature `k` at rating `r`.
-/
module

public import proofs.«01_k».proof.Proof.KernelTerm
public import proofs.«01_k».proof.Proof.ScatterRead
public import proofs.«01_k».proof.Proof.ColumnRead
public import proofs.«01_k».proof.Proof.GraphMath

@[expose] public section

set_option maxRecDepth 16384

noncomputable section

namespace Cert.KernelIdeal.Hand

open Cert.KernelIdeal Cert.KernelIdeal.Gen Cert.Hand
open Idealize.ShloMosaic Idealize.ShloMosaic.ValueIdx
open scoped BigOperators

/-- An edge's node id is five times its node plus its rating. -/
theorem kIds_apply (a r : IVec S400000 32) (e : Fin 400000) (s : Fin 25000) (g : Fin 5)
    (ha : a (ix1 e) = BitVec.ofNat 32 s.val) (hr : r (ix1 e) = BitVec.ofNat 32 g.val) :
    kIds a r (ix1 e) = BitVec.ofNat 32 (nid s g).val := by
  show a (ix1 e) * 5#32 + r (ix1 e) = _
  rw [ha, hr]
  have h1 := s.isLt
  have h2 := g.isLt
  apply BitVec.eq_of_toNat_eq
  show _ = (BitVec.ofNat 32 (5 * s.val + g.val)).toNat
  simp only [BitVec.toNat_add, BitVec.toNat_mul, BitVec.toNat_ofNat]
  omega

/-- Row numbers that are not negative are left as they are. -/
theorem kWrap_apply (N : BitVec 32) (i : IVec S400000 32) (e : Fin 400000) (v : Nat) (h : i (ix1 e) = BitVec.ofNat 32 v)
    (hv : v < 2 ^ 31) : kWrap N i (ix1 e) = BitVec.ofNat 32 v := by
  show Scalar.select (IntOp.cmpi .slt (i (ix1 e)) 0#32) (i (ix1 e) + N) (i (ix1 e)) = _
  rw [h]
  exact wrap_ofNat _ v hv

section

variable (ids idd : IVec S400000 32) (s t : Fin 400000 → Fin 25000) (g : Fin 400000 → Fin 5)

/-- The degree of an id. -/
theorem kDeg_apply (h : ∀ e, ids (ix1 e) = BitVec.ofNat 32 (nid (s e) (g e)).val) (n : Fin 25000) (r : Fin 5) :
    kDeg (F := Ideal) ids (ix1 (nid n r)) = ((deg s g n r : ℝ) : EReal) := by
  unfold kDeg
  refine (scatterAdd1_apply (N := 125000) (n := 400000) scatter_S125000_S400000x1_S400000_n_0_0_1 rfl rfl rfl _ _ _
    (fun e => nid (s e) (g e)) (fun e => (col_apply (by decide) _ ids e).trans (h e)) (by decide) (nid n r)).trans ?_
  unfold deg
  rw [coe_sum]
  have hz : kZero (F := Ideal) (ix1 (nid n r)) = 0 := Ideal.ofBits_zero_f32
  rw [hz, zero_add]
  refine Finset.sum_congr rfl fun e _ => ?_
  rw [coe_ite, EReal.coe_one]
  exact if_congr (nid_eq _ _ _ _) Ideal.ofBits_one_f32 rfl

/-- The normaliser of an id. -/
theorem kNorm_apply (h : ∀ e, ids (ix1 e) = BitVec.ofNat 32 (nid (s e) (g e)).val) (n : Fin 25000) (r : Fin 5) :
    kNorm (F := Ideal) ids (ix1 (nid n r)) = ((nrm (deg s g n r) : ℝ) : EReal) := by
  refine Eq.trans ?_ (nrm_rsqrt (deg s g n r))
  rw [← kDeg_apply ids s g h n r]
  unfold kNorm kPos kInv
  generalize kDeg (F := Ideal) ids = d
  rfl

variable (a : IVec S400000 32) (x : Vec Ideal S25000x128 .f32) (xr : Fin 25000 → Fin 128 → ℝ)

/-- The message of an edge. -/
theorem kMsg_apply (ha : ∀ e, a (ix1 e) = BitVec.ofNat 32 (s e).val) (h : ∀ e, ids (ix1 e) = BitVec.ofNat 32 (nid (s e) (g e)).val)
    (hx : ∀ n k, x (ix2 n k) = ((xr n k : ℝ) : EReal)) (e : Fin 400000) (k : Fin 128) :
    kMsg x a ids (ix2 e k) = ((xr (s e) k * nrm (deg s g (s e) (g e)) : ℝ) : EReal) := by
  have hs := (s e).isLt
  have hn := (nid (s e) (g e)).isLt
  unfold kMsg
  rw [EReal.coe_mul, ← hx, ← kNorm_apply ids s g h (s e) (g e)]
  refine congrArg₂ (· * ·) ?_ ?_
  · exact Routing.gather_row (nb := 25000) (B := 128) (n := 400000) gather_S25000x128_S400000x1_S400000x128_1_0_n_n_0_1_1128 rfl rfl rfl rfl rfl x _ e k
      (s e) ((col_apply (by decide) _ _ e).trans (kWrap_apply _ a e _ (ha e) (by omega))) (by decide)
  · refine (colRep_apply (n := 400000) (b := 128) (by decide) _ _ _ e k).trans ?_
    exact Routing.gather_take1 (N := 125000) (n := 400000) gather_S125000_S400000x1_S400000_n_0_n_n_0_1_1 rfl rfl rfl rfl _ _ e
      (nid (s e) (g e)) ((col_apply (by decide) _ _ e).trans (kWrap_apply _ ids e _ (h e) (by omega))) (by decide)

/-- A prepared row at column `128 r + k` is the normalised neighbourhood sum of feature `k` at rating `r`. -/
theorem kRows_apply (ha : ∀ e, a (ix1 e) = BitVec.ofNat 32 (s e).val) (h : ∀ e, ids (ix1 e) = BitVec.ofNat 32 (nid (s e) (g e)).val)
    (h' : ∀ e, idd (ix1 e) = BitVec.ofNat 32 (nid (t e) (g e)).val)
    (hx : ∀ n k, x (ix2 n k) = ((xr n k : ℝ) : EReal)) (n : Fin 25000) (r : Fin 5) (k : Fin 128) (q : Fin 640)
    (hq : q.val = 128 * r.val + k.val) :
    kRows x a ids idd (ix2 n q) = ((agg xr s t g n r k : ℝ) : EReal) := by
  have hk := k.isLt
  unfold kRows
  refine (shapeCast_apply _ _ (ix2 n q) (ix2 (nid n r) k) ?_).trans ?_
  · rw [Shape.rowMajor_val_two, Shape.rowMajor_val_two]
    show (5 * n.val + r.val) * 128 + k.val = n.val * 640 + q.val
    omega
  unfold agg
  rw [EReal.coe_mul, ← kNorm_apply idd t g h' n r]
  refine congrArg₂ (· * ·) ?_ (colRep_apply (n := 125000) (b := 128) (by decide) _ _ _ (nid n r) k)
  unfold kSum
  refine (scatterAdd2_apply (N := 125000) (B := 128) (n := 400000) scatter_S125000x128_S400000x1_S400000x128_1_0_0_1 rfl rfl rfl rfl _ _ _
    (fun e => nid (t e) (g e)) (fun e => (col_apply (by decide) _ idd e).trans (h' e)) (by decide) (nid n r) k).trans ?_
  have hz : broadcastInDim S125000x128 ![] bcast_S_S125000x128 (constant (F := Ideal) S_ .f32 0x00000000#32) (ix2 (nid n r) k) = 0 :=
    Ideal.ofBits_zero_f32
  rw [hz, zero_add, coe_sum]
  refine Finset.sum_congr rfl fun e _ => ?_
  rw [coe_ite, kMsg_apply ids s g a x xr ha h hx e k]
  by_cases hc : t e = n ∧ g e = r
  · rw [if_pos ((nid_eq _ _ _ _).2 hc), if_pos hc, hc.2]
  · rw [if_neg fun c => hc ((nid_eq _ _ _ _).1 c), if_neg hc]

end

end Cert.KernelIdeal.Hand

end
-- ==== Proof.KernelOut.lean ====
/-
  The kernel program's layer output of the users and of the items, read at an index: the leaky rectifier of the hidden
  values times the fully connected weights, plus the bias.
-/
module

public import proofs.«01_k».proof.Proof.KernelResult
public import proofs.«01_k».proof.Proof.KernelRead

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open scoped BigOperators

/-- The stacked weights hold rating `r`'s weight of feature `k` in row `128 r + k`. -/
theorem stacked_apply (w : Vec Ideal S5x128x128 .f32) (r : Fin 5) (k j : Fin 128) (q : Fin 640) (hq : q.val = 128 * r.val + k.val) :
    shapeCast S640x128 w shapeCasts_S5x128x128_S640x128 (ix2 q j) = w (ix3 r k j) := by
  refine shapeCast_apply w _ (ix2 q j) (ix3 r k j) ?_
  rw [Shape.rowMajor_val_three, Shape.rowMajor_val_two]
  show (r.val * 128 + k.val) * 128 + j.val = q.val * 128 + j.val
  omega

/-- The bias rows hold the bias. -/
theorem bias_apply (b : Vec Ideal S64 .f32) (i : Fin 8) (j : Fin 64) :
    broadcastInDim S8x64 ![0, 1] bcast_S1x64_S8x64_0_1 (broadcastInDim S1x64 ![1] bcast_S64_S1x64_1 b) (ix2 i j) = b (ix1 j) := by
  refine (broadcastInDim_apply _ _ _ (ix2 i j) (ix2 (0 : Fin 1) j) fun a => ?_).trans
    (broadcastInDim_apply _ _ b (ix2 (0 : Fin 1) j) (ix1 j) fun a => ?_)
  · match a with
    | ⟨0, _⟩ => rfl
    | ⟨1, _⟩ => rfl
  · match a with
    | ⟨0, _⟩ => rfl

/-- One row of 640 numbers times the stacked weights, when the row holds normalised sums: the hidden value. -/
theorem rowsDot (x : Fin 640 → EReal) (w : Vec Ideal S5x128x128 .f32) (xr : Fin 25000 → Fin 128 → ℝ) (wr : Fin 5 → Fin 128 → Fin 128 → ℝ)
    (s t : Fin 400000 → Fin 25000) (g : Fin 400000 → Fin 5) (n : Fin 25000) (j : Fin 128)
    (hx : ∀ (r : Fin 5) (k : Fin 128) (q : Fin 640), q.val = 128 * r.val + k.val → x q = ((agg xr s t g n r k : ℝ) : EReal))
    (hw : ∀ r k j, w (ix3 r k j) = ((wr r k j : ℝ) : EReal)) :
    ∑ q : Fin 640, x q * shapeCast S640x128 w shapeCasts_S5x128x128_S640x128 (ix2 q j) = ((hid xr wr s t g n j : ℝ) : EReal) := by
  rw [sum_640]
  unfold hid hidPart
  rw [coe_sum]
  refine Finset.sum_congr rfl fun r _ => ?_
  rw [coe_sum]
  refine Finset.sum_congr rfl fun k _ => ?_
  rw [hx r k _ rfl, stacked_apply w r k j _ rfl, hw, EReal.coe_mul]

section

variable (m : (ℓ : Loc nD τ sig) → Buf (Elt Ideal) ℓ) (c : Dev nD)
variable (s t : Fin 400000 → Fin 25000) (g : Fin 400000 → Fin 5)
variable (xu xi : Fin 25000 → Fin 128 → ℝ) (wr : Fin 5 → Fin 128 → Fin 128 → ℝ)

/-- What a layer output holds at a column, from the hidden values, the fully connected weights and the bias. -/
def outOf (h : Fin 128 → ℝ) (w2 : S128x64.Idx → EReal) (b : S64.Idx → EReal) (j : Fin 64) : EReal :=
  (∑ k : Fin 128, leaky ((h k : ℝ) : EReal) * w2 (ix2 k j)) + b (ix1 j)

/-- A layer output row, when its input row holds normalised sums. -/
theorem layerArr_apply (x : S50000x640.Idx → EReal) (w : Vec Ideal S5x128x128 .f32) (w2 : S128x64.Idx → EReal) (b : Vec Ideal S64 .f32)
    (xr : Fin 25000 → Fin 128 → ℝ) (hw : ∀ r k j, w (ix3 r k j) = ((wr r k j : ℝ) : EReal)) (n : Fin 25000) (n' : Fin 50000)
    (hx : ∀ (r : Fin 5) (k : Fin 128) (q : Fin 640), q.val = 128 * r.val + k.val → x (ix2 n' q) = ((agg xr s t g n r k : ℝ) : EReal))
    (j : Fin 64) :
    layerArr x (shapeCast S640x128 w shapeCasts_S5x128x128_S640x128) w2
        (broadcastInDim S8x64 ![0, 1] bcast_S1x64_S8x64_0_1 (broadcastInDim S1x64 ![1] bcast_S64_S1x64_1 b)) (ix2 n' j)
      = outOf (hid xr wr s t g n) w2 b j := by
  show layer (fun q => x (ix2 n' q)) _ w2 _ j = _
  unfold layer outOf
  refine congrArg₂ (· + ·) (Finset.sum_congr rfl fun k _ => ?_) (bias_apply b 0 j)
  rw [rowsDot (fun q => x (ix2 n' q)) w xr wr s t g n k hx hw]

variable (hs : ∀ e, arg m c main_arg2 (ix1 e) = BitVec.ofNat 32 (s e).val)
variable (ht : ∀ e, arg m c main_arg3 (ix1 e) = BitVec.ofNat 32 (t e).val)
variable (hg : ∀ e, arg m c main_arg4 (ix1 e) = BitVec.ofNat 32 (g e).val)
variable (hxu : ∀ n k, arg m c main_arg0 (ix2 n k) = ((xu n k : ℝ) : EReal))
variable (hxi : ∀ n k, arg m c main_arg1 (ix2 n k) = ((xi n k : ℝ) : EReal))
variable (hw : ∀ r k j, arg m c main_arg7 (ix3 r k j) = ((wr r k j : ℝ) : EReal))

include hs ht hg hxi hw in
/-- The users' output: their hidden values come from the items' features. -/
theorem outU_apply (n : Fin 25000) (j : Fin 64) :
    outU m c (ix2 n j) = outOf (hid xi wr t s g n) (arg m c main_arg8) (arg m c main_arg9) j := by
  have hn := n.isLt
  unfold outU
  refine (extractStridedSlice_apply _ _ _ (ix2 n j) (ix2 (⟨n.val, by omega⟩ : Fin 50000) j) fun a => ?_).trans ?_
  · match a with
    | ⟨0, _⟩ => show n.val = 0 + n.val; omega
    | ⟨1, _⟩ => show j.val = 0 + j.val; omega
  unfold outAll
  refine layerArr_apply t s g wr _ _ _ _ xi hw n _ (fun r k q hq => ?_) j
  unfold rowsAll
  refine (concatenate_pair_apply_left (t := S50000x640) (s₁ := S25000x640) (s₂ := S25000x640) 0 _ _ _ _ rfl (ix2 n q) fun b => ?_).trans ?_
  · match b with
    | ⟨0, _⟩ => rfl
    | ⟨1, _⟩ => rfl
  · exact kRows_apply _ _ t s g _ _ xi ht (fun e => kIds_apply _ _ e _ _ (ht e) (hg e)) (fun e => kIds_apply _ _ e _ _ (hs e) (hg e))
      hxi n r k q hq

include hs ht hg hxu hw in
/-- The items' output: their hidden values come from the users' features. -/
theorem outI_apply (n : Fin 25000) (j : Fin 64) :
    outI m c (ix2 n j) = outOf (hid xu wr s t g n) (arg m c main_arg8) (arg m c main_arg9) j := by
  have hn := n.isLt
  unfold outI
  refine (extractStridedSlice_apply _ _ _ (ix2 n j) (ix2 (⟨25000 + n.val, by omega⟩ : Fin 50000) j) fun a => ?_).trans ?_
  · match a with
    | ⟨0, _⟩ => rfl
    | ⟨1, _⟩ => show j.val = 0 + j.val; omega
  unfold outAll
  refine layerArr_apply s t g wr _ _ _ _ xu hw n _ (fun r k q hq => ?_) j
  unfold rowsAll
  refine (concatenate_pair_apply_right (t := S50000x640) (s₁ := S25000x640) (s₂ := S25000x640) 0 _ _ _ _ rfl rfl (ix2 n q) (fun b hb => ?_) ?_).trans ?_
  · match b with
    | ⟨0, _⟩ => exact absurd rfl hb
    | ⟨1, _⟩ => rfl
  · exact Nat.add_comm _ _
  · exact kRows_apply _ _ s t g _ _ xu hs (fun e => kIds_apply _ _ e _ _ (hs e) (hg e)) (fun e => kIds_apply _ _ e _ _ (ht e) (hg e))
      hxu n r k q hq

end

end Cert.KernelIdeal.Hand

end
-- ==== Proof.MixRead.lean ====
/-
  The mixing weights filled up with zero columns still hold the given weights in their first five columns.
-/
module

public import proofs.«01_k».proof.Proof.KernelTerm
public import Idealize.ShloMosaic.Lib.Routing.OpsSet
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.ValueIdx

/-- The place of weight `(s, c)` is `(s, c)`. -/
theorem mix_lands : ∀ (s : Fin 2) (c : Fin 5), scatter_S2x8_S1_S2x5_01_n_1_0.resultIdx? (ix2 s c)
    (broadcastInDim S1 ![] bcast_S_S1 (constantI S_ 32 0#32)) = some (ix2 s (⟨c.val, by omega⟩ : Fin 8)) := by
  decide +kernel

/-- The filled-up weights hold weight `(s, c)` at `(s, c)`. -/
theorem kMix_apply {F : FTy → Type} [FloatOps F] (w : Vec F S2x5 .f32) (s : Fin 2) (c : Fin 5) (c' : Fin 8) (hc : c'.val = c.val) :
    kMix w (ix2 s c') = w (ix2 s c) := by
  obtain rfl : c' = ⟨c.val, Nat.lt_of_lt_of_le c.isLt (by decide)⟩ := Fin.ext hc
  have hiff : ∀ n : Fin S2x5.numel, scatter_S2x8_S1_S2x5_01_n_1_0.resultIdx? (S2x5.rowMajor.symm n)
      (broadcastInDim S1 ![] bcast_S_S1 (constantI S_ 32 0#32)) = some (ix2 s (⟨c.val, by omega⟩ : Fin 8))
      ↔ decide (S2x5.rowMajor.symm n = ix2 s c) = true := fun n => by
    rw [decide_eq_true_iff]
    have e : S2x5.rowMajor.symm n = ix2 (S2x5.rowMajor.symm n 0) (S2x5.rowMajor.symm n 1) := eq_ix2 _
    refine ⟨fun h => ?_, fun h => by rw [h]; exact mix_lands s c⟩
    have h' := (mix_lands (S2x5.rowMajor.symm n 0) (S2x5.rowMajor.symm n 1)).symm.trans ((congrArg (fun j => scatter_S2x8_S1_S2x5_01_n_1_0.resultIdx? j
      (broadcastInDim S1 ![] bcast_S_S1 (constantI S_ 32 0#32))) e).symm.trans h)
    have h2 := Option.some.inj h'
    have a0 : (S2x5.rowMajor.symm n 0).val = s.val := congrArg (fun j : S2x8.Idx => (j 0).val) h2
    have a1 : (S2x5.rowMajor.symm n 1).val = c.val := congrArg (fun j : S2x8.Idx => (j 1).val) h2
    refine e.trans (funext fun a => Fin.ext ?_)
    match a with
    | ⟨0, _⟩ => exact a0
    | ⟨1, _⟩ => exact a1
  unfold kMix
  rw [Routing.scatter_set_lands scatter_S2x8_S1_S2x5_01_n_1_0 _ _ w _ (fun n => decide (S2x5.rowMajor.symm n = ix2 s c)) hiff (w (ix2 s c))
    (fun n h => by rw [of_decide_eq_true h])]
  exact if_pos (List.any_eq_true.2 ⟨S2x5.rowMajor (ix2 s c), List.mem_finRange _, decide_eq_true (Equiv.symm_apply_apply _ _)⟩)

end Cert.KernelIdeal.Hand

end
-- ==== Proof.RefTerm.lean ====
/-
  The reference program's result, written with a few named terms: one rating's masked degrees, normaliser and
  convolution, the sum of the five ratings' convolutions, the layer after it and the rows that the decoder reads.
-/
module

public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

variable {F : FTy → Type} [FloatOps F]

/-- One where an edge has the rating `r`, else zero. -/
def rMask (r : BitVec 32) (q : IVec S400000 32) : Vec F S400000 .f32 :=
  uitofp .f32 (cmpi .eq q (broadcastInDim S400000 ![] bcast_S_S400000 (constantI S_ 32 r)))

/-- The degrees of the nodes `a` at rating `r`. -/
def rDeg (r : BitVec 32) (q a : IVec S400000 32) : Vec F S25000 .f32 :=
  Host.scatterAdd scatter_S25000_S400000x1_S400000_n_0_0_1 (broadcastInDim S25000 ![] bcast_S_S25000 (constant S_ .f32 0x00000000#32))
    (broadcastInDim S400000x1 ![0] bcast_S400000_S400000x1_0 a) (rMask r q)

/-- The normaliser at a vector of degrees. -/
def rInv (d : Vec F S25000 .f32) : Vec F S25000 .f32 :=
  select (cmpf .ogt d (broadcastInDim S25000 ![] bcast_S_S25000 (constant S_ .f32 0x00000000#32)))
    (Host.divf (broadcastInDim S25000 ![] bcast_S_S25000 (constant S_ .f32 0x3F800000#32))
      (Host.sqrt (maximumf d (broadcastInDim S25000 ![] bcast_S_S25000 (constant S_ .f32 0x3F800000#32)))))
    (broadcastInDim S25000 ![] bcast_S_S25000 (id (constant S_ .f32 0x00000000#32)))

/-- The normaliser of the nodes `a` at rating `r`. -/
def rNorm (r : BitVec 32) (q a : IVec S400000 32) : Vec F S25000 .f32 := rInv (rDeg r q a)

/-- Row numbers below zero counted from the end of an array of 25000 rows. -/
def rWrap (i : IVec S400000 32) : IVec S400000 32 :=
  select (cmpi .slt i (broadcastInDim S400000 ![] bcast_S_S400000 (constantI S_ 32 0#32)))
    (addi i (broadcastInDim S400000 ![] bcast_S_S400000 (constantI S_ 32 25000#32))) i

/-- The feature rows times one rating's weights. -/
def rFeat (x : Vec F S25000x128 .f32) (w : Vec F S1x128x128 .f32) : Vec F S25000x128 .f32 :=
  Host.dotGeneral dot_S25000x128_S128x128_S25000x128_1_0_0_1_n_n none x (shapeCast _ w shapeCasts_S1x128x128_S128x128)

/-- The messages of one rating: the weighted source rows times the source's normaliser, zero at other ratings. -/
def rMsg (x : Vec F S25000x128 .f32) (w : Vec F S1x128x128 .f32) (r : BitVec 32) (q a : IVec S400000 32) : Vec F S400000x128 .f32 :=
  mulf (Host.gather gather_S25000x128_S400000x1_S400000x128_1_0_n_n_0_1_1128 (rFeat x w)
      (broadcastInDim S400000x1 ![0] bcast_S400000_S400000x1_0 (rWrap a)))
    (broadcastInDim S400000x128 ![0, 1] bcast_S400000x1_S400000x128_0_1 (broadcastInDim S400000x1 ![0] bcast_S400000_S400000x1_0
      (mulf (Host.gather gather_S25000_S400000x1_S400000_n_0_n_n_0_1_1 (rNorm r q a)
        (broadcastInDim S400000x1 ![0] bcast_S400000_S400000x1_0 (rWrap a))) (rMask r q))))

/-- One rating's convolution from the nodes `a` to the nodes `b`. -/
def rPart (x : Vec F S25000x128 .f32) (w : Vec F S1x128x128 .f32) (r : BitVec 32) (q a b : IVec S400000 32) : Vec F S25000x128 .f32 :=
  mulf (Host.scatterAdd scatter_S25000x128_S400000x1_S400000x128_1_0_0_1
      (broadcastInDim S25000x128 ![] bcast_S_S25000x128 (constant S_ .f32 0x00000000#32))
      (broadcastInDim S400000x1 ![0] bcast_S400000_S400000x1_0 b) (rMsg x w r q a))
    (broadcastInDim S25000x128 ![0, 1] bcast_S25000x1_S25000x128_0_1 (broadcastInDim S25000x1 ![0] bcast_S25000_S25000x1_0 (rNorm r q b)))

/-- The five ratings' convolutions, added up from zero. -/
def rSum (x : Vec F S25000x128 .f32) (w : Vec F S5x128x128 .f32) (q a b : IVec S400000 32) : Vec F S25000x128 .f32 :=
  addf (addf (addf (addf (addf (broadcastInDim S25000x128 ![] bcast_S_S25000x128 (constant S_ .f32 0x00000000#32))
    (rPart x (extractStridedSlice S1x128x128 ![0, 0, 0] w slices_S5x128x128_S1x128x128_0_0_0) 0#32 q a b))
    (rPart x (extractStridedSlice S1x128x128 ![1, 0, 0] w slices_S5x128x128_S1x128x128_1_0_0) 1#32 q a b))
    (rPart x (extractStridedSlice S1x128x128 ![2, 0, 0] w slices_S5x128x128_S1x128x128_2_0_0) 2#32 q a b))
    (rPart x (extractStridedSlice S1x128x128 ![3, 0, 0] w slices_S5x128x128_S1x128x128_3_0_0) 3#32 q a b))
    (rPart x (extractStridedSlice S1x128x128 ![4, 0, 0] w slices_S5x128x128_S1x128x128_4_0_0) 4#32 q a b)

/-- The layer after the convolutions: the leaky rectifier, the fully connected weights, the bias. -/
def rLayer (h : Vec F S25000x128 .f32) (w2 : Vec F S128x64 .f32) (b : Vec F S64 .f32) : Vec F S25000x64 .f32 :=
  addf (Host.dotGeneral dot_S25000x128_S128x64_S25000x64_1_0_0_1_n_n none
      (select (cmpf .oge h (broadcastInDim S25000x128 ![] bcast_S_S25000x128 (constant S_ .f32 0x00000000#32))) h
        (mulf (broadcastInDim S25000x128 ![] bcast_S_S25000x128 (id (constant S_ .f32 0x3DCCCCCD#32))) h)) w2)
    (broadcastInDim S25000x64 ![0, 1] bcast_S1x64_S25000x64_0_1 (broadcastInDim S1x64 ![1] bcast_S64_S1x64_1 b))

/-- Row numbers of the decoder's edges, those below zero counted from the end of an array of 25000 rows. -/
def rWrapD (i : IVec S200000 32) : IVec S200000 32 :=
  select (cmpi .slt i (broadcastInDim S200000 ![] bcast_S_S200000 (constantI S_ 32 0#32)))
    (addi i (broadcastInDim S200000 ![] bcast_S_S200000 (constantI S_ 32 25000#32))) i

/-- The rows that the decoder reads, one per decoder edge. -/
def rTake (x : Vec F S25000x64 .f32) (i : IVec S200000 32) : Vec F S200000x64 .f32 :=
  Host.gather gather_S25000x64_S200000x1_S200000x64_1_0_n_n_0_1_164 x
    (broadcastInDim S200000x1 ![0] bcast_S200000_S200000x1_0 (rWrapD i))

/-- One basis matrix's scores of the pairs of rows. -/
def rScore (x y : Vec F S200000x64 .f32) (p : Vec F S1x64x64 .f32) : Vec F S200000 .f32 :=
  Host.reduceAdd (mulf (Host.dotGeneral dot_S200000x64_S64x64_S200000x64_1_0_0_1_n_n none x
    (shapeCast _ p shapeCasts_S1x64x64_S64x64)) y) (constant S_ .f32 0x00000000#32) reducesTo_S200000x64_S200000_d1 h_S_

/-- The two scores of each pair of rows, mixed by the mixing weights. -/
def rMix (x y : Vec F S200000x64 .f32) (p : Vec F S2x64x64 .f32) (cw : Vec F S2x5 .f32) : Vec F S200000x5 .f32 :=
  Host.dotGeneral dot_S200000x2_S2x5_S200000x5_1_0_0_1_n_n none
    (concatenate S200000x2 1
      [⟨S200000x1, broadcastInDim S200000x1 ![0] bcast_S200000_S200000x1_0
          (rScore x y (extractStridedSlice S1x64x64 ![0, 0, 0] p slices_S2x64x64_S1x64x64_0_0_0))⟩,
       ⟨S200000x1, broadcastInDim S200000x1 ![0] bcast_S200000_S200000x1_0
          (rScore x y (extractStridedSlice S1x64x64 ![1, 0, 0] p slices_S2x64x64_S1x64x64_1_0_0))⟩]
      concatenates_S200000x1_S200000x1_S200000x2_d1) cw

section

variable (V : Valuation τ sig (Elt F))

theorem item_sum : res_main_v381 V = rSum (V (Proc.devRef .tc main_arg0)) (V (Proc.devRef .tc main_arg7)) (V (Proc.devRef .tc main_arg4))
    (V (Proc.devRef .tc main_arg2)) (V (Proc.devRef .tc main_arg3)) := rfl

theorem user_sum : res_main_v406 V = rSum (V (Proc.devRef .tc main_arg1)) (V (Proc.devRef .tc main_arg7)) (V (Proc.devRef .tc main_arg4))
    (V (Proc.devRef .tc main_arg3)) (V (Proc.devRef .tc main_arg2)) := rfl

theorem user_rows : res_main_v423 V = rTake (rLayer (rSum (V (Proc.devRef .tc main_arg1)) (V (Proc.devRef .tc main_arg7))
    (V (Proc.devRef .tc main_arg4)) (V (Proc.devRef .tc main_arg3)) (V (Proc.devRef .tc main_arg2)))
    (V (Proc.devRef .tc main_arg8)) (V (Proc.devRef .tc main_arg9))) (V (Proc.devRef .tc main_arg5)) := by
  rw [← user_sum]; rfl

theorem item_rows : res_main_v430 V = rTake (rLayer (rSum (V (Proc.devRef .tc main_arg0)) (V (Proc.devRef .tc main_arg7))
    (V (Proc.devRef .tc main_arg4)) (V (Proc.devRef .tc main_arg2)) (V (Proc.devRef .tc main_arg3)))
    (V (Proc.devRef .tc main_arg8)) (V (Proc.devRef .tc main_arg9))) (V (Proc.devRef .tc main_arg6)) := by
  rw [← item_sum]; rfl

end

section

variable (m : (ℓ : Loc nD τ sig) → Buf (Elt F) ℓ) (c : Dev nD)

/-- An argument's contents at launch. -/
abbrev arg (r : Ref sig .tc) : Buf (Elt F) ((c : Thread nD τ).loc r) := m ((c : Thread nD τ).loc r)

/-- The users' layer output. -/
def rOutU : Vec F S25000x64 .f32 :=
  rLayer (rSum (arg m c main_arg1) (arg m c main_arg7) (arg m c main_arg4) (arg m c main_arg3) (arg m c main_arg2))
    (arg m c main_arg8) (arg m c main_arg9)
/-- The items' layer output. -/
def rOutI : Vec F S25000x64 .f32 :=
  rLayer (rSum (arg m c main_arg0) (arg m c main_arg7) (arg m c main_arg4) (arg m c main_arg2) (arg m c main_arg3))
    (arg m c main_arg8) (arg m c main_arg9)

variable (ρ : Dev nD → PrngReg)

/-- From any memory with zero counters, every weakly fair execution of the reference program leaves the mixed scores of
    the decoder's edges in its result buffer and every argument array as launched. -/
theorem run : θ_run defs (onTc (τ := τ) (main (F := F))) ⟨m, fun _ => 0, ρ⟩ fun r => ∀ c : Dev nD,
      r.2.mem ((c.tc : Thread nD τ).loc main_v444) = rMix (rTake (rOutU m c) (arg m c main_arg5)) (rTake (rOutI m c) (arg m c main_arg6))
          (arg m c main_arg10) (arg m c main_arg11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (by rw [user_rows, item_rows]; rfl), (h c).2⟩) (Cert.ReferenceIdeal.Value.run m ρ)

end

end Cert.ReferenceIdeal.Hand

end
-- ==== Proof.RefRead.lean ====
/-
  The reference program's terms, read at an index when the edge arrays hold node numbers and ratings: the sum of the five
  ratings' convolutions is the hidden value.
-/
module

public import proofs.«01_k».proof.Proof.RefTerm
public import proofs.«01_k».proof.Proof.ScatterRead
public import proofs.«01_k».proof.Proof.ColumnRead
public import proofs.«01_k».proof.Proof.GraphMath
public import Idealize.ShloMosaic.Lib.MatmulPlain
public import Idealize.ShloMosaic.Lib.KernelVsHost

@[expose] public section

set_option maxRecDepth 16384

noncomputable section

namespace Cert.ReferenceIdeal.Hand

open Cert.ReferenceIdeal Cert.ReferenceIdeal.Gen Cert.Hand
open Cert.KernelIdeal.Hand (scatterAdd1_apply scatterAdd2_apply)
open Idealize.ShloMosaic Idealize.ShloMosaic.ValueIdx
open scoped BigOperators

/-- A plain product without an accumulator, read at an entry. -/
theorem dot_plain_apply {M K N : ℕ} (lhs : FVec Ideal ⟨2, ![M, K]⟩ .f32) (rhs : FVec Ideal ⟨2, ![K, N]⟩ .f32) (r : Fin M) (c : Fin N) :
    Host.dotGeneral (DotDims.plain M K N) none lhs rhs (ix2 r c) = ∑ k : Fin K, lhs (ix2 r k) * rhs (ix2 k c) := by
  rw [← matmul_zero_eq_dotGeneral]
  refine (Ideal.matmul_plain_apply none lhs rhs _ r c).trans ?_
  have hz : constant (F := Ideal) ⟨2, ![M, N]⟩ .f32 0x00000000#32 (ix2 r c) = 0 := Ideal.ofBits_zero_f32
  rw [hz, zero_add]

/-- The mask of rating `r` is one at an edge of that rating and zero at another. -/
theorem rMask_apply (q : IVec S400000 32) (g : Fin 400000 → Fin 5) (hg : ∀ e, q (ix1 e) = BitVec.ofNat 32 (g e).val) (r : Fin 5)
    (e : Fin 400000) : rMask (F := Ideal) (BitVec.ofNat 32 r.val) q (ix1 e) = ((if g e = r then 1 else 0 : ℝ) : EReal) := by
  show (((IntOp.cmpi .eq (q (ix1 e)) (BitVec.ofNat 32 r.val)).toNat : ℝ) : EReal) = _
  rw [hg]
  have h1 := (g e).isLt
  have h2 := r.isLt
  by_cases h : g e = r
  · rw [if_pos h, h]
    simp [IntOp.cmpi]
  · have hne : BitVec.ofNat 32 (g e).val ≠ BitVec.ofNat 32 r.val := fun c => h (Fin.ext (by
      have := congrArg BitVec.toNat c
      simp only [BitVec.toNat_ofNat] at this
      omega))
    rw [if_neg h]
    simp [IntOp.cmpi, hne]

/-- Row numbers that are not negative are left as they are. -/
theorem rWrap_apply (i : IVec S400000 32) (e : Fin 400000) (v : Nat) (h : i (ix1 e) = BitVec.ofNat 32 v)
    (hv : v < 2 ^ 31) : rWrap i (ix1 e) = BitVec.ofNat 32 v := by
  show Scalar.select (IntOp.cmpi .slt (i (ix1 e)) 0#32) (i (ix1 e) + 25000#32) (i (ix1 e)) = _
  rw [h]
  exact wrap_ofNat _ v hv

section

variable (q a b : IVec S400000 32) (s t : Fin 400000 → Fin 25000) (g : Fin 400000 → Fin 5)

/-- The degree of a node at a rating. -/
theorem rDeg_apply (hg : ∀ e, q (ix1 e) = BitVec.ofNat 32 (g e).val) (ha : ∀ e, a (ix1 e) = BitVec.ofNat 32 (s e).val)
    (n : Fin 25000) (r : Fin 5) : rDeg (F := Ideal) (BitVec.ofNat 32 r.val) q a (ix1 n) = ((deg s g n r : ℝ) : EReal) := by
  unfold rDeg
  refine (scatterAdd1_apply (N := 25000) (n := 400000) scatter_S25000_S400000x1_S400000_n_0_0_1 rfl rfl rfl _ _ _
    s (fun e => (col_apply (by decide) _ a e).trans (ha e)) (by decide) n).trans ?_
  unfold deg
  rw [coe_sum]
  have hz : broadcastInDim S25000 ![] bcast_S_S25000 (constant (F := Ideal) S_ .f32 0x00000000#32) (ix1 n) = 0 := Ideal.ofBits_zero_f32
  rw [hz, zero_add]
  refine Finset.sum_congr rfl fun e _ => ?_
  rw [rMask_apply q g hg r e]
  by_cases h1 : s e = n
  · by_cases h2 : g e = r
    · rw [if_pos h1, if_pos h2, if_pos ⟨h1, h2⟩]
    · rw [if_pos h1, if_neg h2, if_neg fun c => h2 c.2]
  · rw [if_neg h1, if_neg fun c => h1 c.1, EReal.coe_zero]

/-- The normaliser of a node at a rating. -/
theorem rNorm_apply (hg : ∀ e, q (ix1 e) = BitVec.ofNat 32 (g e).val) (ha : ∀ e, a (ix1 e) = BitVec.ofNat 32 (s e).val)
    (n : Fin 25000) (r : Fin 5) : rNorm (F := Ideal) (BitVec.ofNat 32 r.val) q a (ix1 n) = ((nrm (deg s g n r) : ℝ) : EReal) := by
  refine Eq.trans ?_ (nrm_div (deg s g n r))
  rw [← rDeg_apply q a s g hg ha n r]
  unfold rNorm
  generalize rDeg (F := Ideal) (BitVec.ofNat 32 r.val) q a = d
  rfl

variable (x : Vec Ideal S25000x128 .f32) (xr : Fin 25000 → Fin 128 → ℝ) (w : Vec Ideal S1x128x128 .f32) (wr : Fin 5 → Fin 128 → Fin 128 → ℝ)

/-- A feature row times one rating's weights. -/
theorem rFeat_apply (r : Fin 5) (hx : ∀ n k, x (ix2 n k) = ((xr n k : ℝ) : EReal))
    (hw : ∀ k j, w (ix3 (0 : Fin 1) k j) = ((wr r k j : ℝ) : EReal)) (n : Fin 25000) (j : Fin 128) :
    rFeat x w (ix2 n j) = ((∑ k, xr n k * wr r k j : ℝ) : EReal) := by
  unfold rFeat
  refine (dot_plain_apply (M := 25000) (K := 128) (N := 128) x (shapeCast S128x128 w shapeCasts_S1x128x128_S128x128) n j).trans ?_
  rw [coe_sum]
  refine Finset.sum_congr rfl fun k _ => ?_
  have h : shapeCast S128x128 w shapeCasts_S1x128x128_S128x128 (ix2 k j) = w (ix3 (0 : Fin 1) k j) := by
    refine shapeCast_apply w _ (ix2 k j) (ix3 (0 : Fin 1) k j) ?_
    rw [Shape.rowMajor_val_three, Shape.rowMajor_val_two]
    show (0 * 128 + k.val) * 128 + j.val = k.val * 128 + j.val
    omega
  rw [h, hx, hw, EReal.coe_mul]

/-- The message of an edge at a rating. -/
theorem rMsg_apply (hg : ∀ e, q (ix1 e) = BitVec.ofNat 32 (g e).val) (ha : ∀ e, a (ix1 e) = BitVec.ofNat 32 (s e).val)
    (r : Fin 5) (hx : ∀ n k, x (ix2 n k) = ((xr n k : ℝ) : EReal))
    (hw : ∀ k j, w (ix3 (0 : Fin 1) k j) = ((wr r k j : ℝ) : EReal)) (e : Fin 400000) (j : Fin 128) :
    rMsg x w (BitVec.ofNat 32 r.val) q a (ix2 e j)
      = (((∑ k, xr (s e) k * wr r k j) * (nrm (deg s g (s e) r) * (if g e = r then 1 else 0)) : ℝ) : EReal) := by
  have hs := (s e).isLt
  unfold rMsg
  rw [EReal.coe_mul, ← rFeat_apply x xr w wr r hx hw, EReal.coe_mul, ← rNorm_apply q a s g hg ha (s e) r, ← rMask_apply q g hg r e]
  refine congrArg₂ (· * ·) ?_ ?_
  · exact Routing.gather_row (nb := 25000) (B := 128) (n := 400000) gather_S25000x128_S400000x1_S400000x128_1_0_n_n_0_1_1128 rfl rfl rfl rfl rfl _ _ e j
      (s e) ((col_apply (by decide) _ _ e).trans (rWrap_apply a e _ (ha e) (by omega))) (by decide)
  · refine (colRep_apply (n := 400000) (b := 128) (by decide) _ _ _ e j).trans ?_
    refine congrArg₂ (· * ·) ?_ rfl
    exact Routing.gather_take1 (N := 25000) (n := 400000) gather_S25000_S400000x1_S400000_n_0_n_n_0_1_1 rfl rfl rfl rfl _ _ e
      (s e) ((col_apply (by decide) _ _ e).trans (rWrap_apply a e _ (ha e) (by omega))) (by decide)

/-- One rating's convolution is the hidden value at that rating. -/
theorem rPart_apply (hg : ∀ e, q (ix1 e) = BitVec.ofNat 32 (g e).val) (ha : ∀ e, a (ix1 e) = BitVec.ofNat 32 (s e).val)
    (hb : ∀ e, b (ix1 e) = BitVec.ofNat 32 (t e).val)
    (r : Fin 5) (hx : ∀ n k, x (ix2 n k) = ((xr n k : ℝ) : EReal))
    (hw : ∀ k j, w (ix3 (0 : Fin 1) k j) = ((wr r k j : ℝ) : EReal)) (n : Fin 25000) (j : Fin 128) :
    rPart x w (BitVec.ofNat 32 r.val) q a b (ix2 n j) = ((hidPart xr wr s t g n r j : ℝ) : EReal) := by
  rw [← hidPart_eq, EReal.coe_mul, ← rNorm_apply q b t g hg hb n r]
  unfold rPart
  refine congrArg₂ (· * ·) ?_ (colRep_apply (n := 25000) (b := 128) (by decide) _ _ _ n j)
  refine (scatterAdd2_apply (N := 25000) (B := 128) (n := 400000) scatter_S25000x128_S400000x1_S400000x128_1_0_0_1 rfl rfl rfl rfl _ _ _
    t (fun e => (col_apply (by decide) _ b e).trans (hb e)) (by decide) n j).trans ?_
  have hz : broadcastInDim S25000x128 ![] bcast_S_S25000x128 (constant (F := Ideal) S_ .f32 0x00000000#32) (ix2 n j) = 0 :=
    Ideal.ofBits_zero_f32
  rw [hz, zero_add, coe_sum]
  refine Finset.sum_congr rfl fun e _ => ?_
  rw [coe_ite, rMsg_apply q a s g x xr w wr hg ha r hx hw e j]

/-- A slice of the weights is one rating's weights. -/
theorem wSlice_apply (W : Vec Ideal S5x128x128 .f32) (r : Fin 5) (h : S5x128x128.Slices ![r.val, 0, 0] S1x128x128)
    (hW : ∀ r k j, W (ix3 r k j) = ((wr r k j : ℝ) : EReal)) (k j : Fin 128) :
    extractStridedSlice S1x128x128 ![r.val, 0, 0] W h (ix3 (0 : Fin 1) k j) = ((wr r k j : ℝ) : EReal) := by
  rw [← hW]
  refine extractStridedSlice_apply _ W h _ (ix3 r k j) fun a => ?_
  match a with
  | ⟨0, _⟩ => rfl
  | ⟨1, _⟩ => exact (Nat.zero_add _).symm
  | ⟨2, _⟩ => exact (Nat.zero_add _).symm

/-- The five convolutions added up are the hidden value. -/
theorem rSum_apply (W : Vec Ideal S5x128x128 .f32) (hg : ∀ e, q (ix1 e) = BitVec.ofNat 32 (g e).val)
    (ha : ∀ e, a (ix1 e) = BitVec.ofNat 32 (s e).val) (hb : ∀ e, b (ix1 e) = BitVec.ofNat 32 (t e).val)
    (hx : ∀ n k, x (ix2 n k) = ((xr n k : ℝ) : EReal)) (hW : ∀ r k j, W (ix3 r k j) = ((wr r k j : ℝ) : EReal))
    (n : Fin 25000) (j : Fin 128) : rSum x W q a b (ix2 n j) = ((hid xr wr s t g n j : ℝ) : EReal) := by
  have hz : broadcastInDim S25000x128 ![] bcast_S_S25000x128 (constant (F := Ideal) S_ .f32 0x00000000#32) (ix2 n j) = 0 :=
    Ideal.ofBits_zero_f32
  have h0 := rPart_apply q a b s t g x xr _ wr hg ha hb 0 hx (wSlice_apply wr W 0 slices_S5x128x128_S1x128x128_0_0_0 hW) n j
  have h1 := rPart_apply q a b s t g x xr _ wr hg ha hb 1 hx (wSlice_apply wr W 1 slices_S5x128x128_S1x128x128_1_0_0 hW) n j
  have h2 := rPart_apply q a b s t g x xr _ wr hg ha hb 2 hx (wSlice_apply wr W 2 slices_S5x128x128_S1x128x128_2_0_0 hW) n j
  have h3 := rPart_apply q a b s t g x xr _ wr hg ha hb 3 hx (wSlice_apply wr W 3 slices_S5x128x128_S1x128x128_3_0_0 hW) n j
  have h4 := rPart_apply q a b s t g x xr _ wr hg ha hb 4 hx (wSlice_apply wr W 4 slices_S5x128x128_S1x128x128_4_0_0 hW) n j
  unfold hid
  rw [Fin.sum_univ_five, EReal.coe_add, EReal.coe_add, EReal.coe_add, EReal.coe_add, ← h0, ← h1, ← h2, ← h3, ← h4,
    ← zero_add (rPart (F := Ideal) _ _ _ _ _ _ _), ← hz]
  rfl

end

end Cert.ReferenceIdeal.Hand

end
-- ==== Proof.RefOut.lean ====
/-
  The reference program's layer outputs, read at an index: the leaky rectifier of the hidden values through the fully
  connected weights, plus the bias.
-/
module

public import proofs.«01_k».proof.Proof.RefRead
public import proofs.«01_k».proof.Proof.KernelOut

@[expose] public section

set_option maxRecDepth 16384

noncomputable section

namespace Cert.ReferenceIdeal.Hand

open Cert.ReferenceIdeal Cert.ReferenceIdeal.Gen Cert.Hand
open Cert.KernelIdeal.Hand (leaky outOf)
open Idealize.ShloMosaic Idealize.ShloMosaic.ValueIdx
open scoped BigOperators

/-- The leaky rectifier that keeps its argument where it is at least zero is the one that keeps it where it is above zero:
    at zero both give zero. -/
theorem leaky_ge (x : EReal) :
    Scalar.select (Ideal.cmp .oge x (Ideal.ofBits .f32 0x00000000#32)) x (Ideal.ofBits .f32 0x3DCCCCCD#32 * x) = leaky x := by
  unfold leaky
  rw [Ideal.ofBits_zero_f32]
  rcases eq_or_ne x 0 with rfl | hne
  · rw [mul_zero]
    unfold Scalar.select
    simp
  · congr 1
    unfold Ideal.cmp
    simp [lt_iff_le_and_ne, hne.symm]

/-- The reference's bias, one row per node, holds the bias at its column. -/
theorem rBias_apply (b : Vec Ideal S64 .f32) (n : Fin 25000) (j : Fin 64) :
    broadcastInDim S25000x64 ![0, 1] bcast_S1x64_S25000x64_0_1 (broadcastInDim S1x64 ![1] bcast_S64_S1x64_1 b) (ix2 n j) = b (ix1 j) := by
  refine (broadcastInDim_apply _ _ _ _ (ix2 (0 : Fin 1) j) fun a => ?_).trans (broadcastInDim_apply _ _ _ _ (ix1 j) fun a => ?_)
  · match a with
    | ⟨0, _⟩ => rfl
    | ⟨1, _⟩ => rfl
  · match a with
    | ⟨0, _⟩ => rfl

/-- The layer of a row of real hidden values. -/
theorem rLayer_apply (h : Vec Ideal S25000x128 .f32) (w2 : Vec Ideal S128x64 .f32) (b : Vec Ideal S64 .f32) (hr : Fin 128 → ℝ)
    (n : Fin 25000) (hh : ∀ k, h (ix2 n k) = ((hr k : ℝ) : EReal)) (j : Fin 64) :
    rLayer h w2 b (ix2 n j) = outOf hr w2 b j := by
  unfold rLayer outOf
  refine congrArg₂ (· + ·) ?_ (rBias_apply b n j)
  refine (dot_plain_apply (M := 25000) (K := 128) (N := 64) _ w2 n j).trans (Finset.sum_congr rfl fun k _ => ?_)
  rw [← hh k, ← leaky_ge]
  rfl

section

variable (m : (ℓ : Loc nD τ sig) → Buf (Elt Ideal) ℓ) (c : Dev nD)
variable (s t : Fin 400000 → Fin 25000) (g : Fin 400000 → Fin 5)
variable (x : Fin 25000 → Fin 128 → ℝ) (wr : Fin 5 → Fin 128 → Fin 128 → ℝ)

/-- The users' output: their hidden values come from the items' features. -/
theorem rOutU_apply (hs : ∀ e, arg m c main_arg2 (ix1 e) = BitVec.ofNat 32 (s e).val)
    (ht : ∀ e, arg m c main_arg3 (ix1 e) = BitVec.ofNat 32 (t e).val) (hg : ∀ e, arg m c main_arg4 (ix1 e) = BitVec.ofNat 32 (g e).val)
    (hx : ∀ n k, arg m c main_arg1 (ix2 n k) = ((x n k : ℝ) : EReal))
    (hw : ∀ r k j, arg m c main_arg7 (ix3 r k j) = ((wr r k j : ℝ) : EReal)) (n : Fin 25000) (j : Fin 64) :
    rOutU m c (ix2 n j) = outOf (hid x wr t s g n) (arg m c main_arg8) (arg m c main_arg9) j :=
  rLayer_apply _ _ _ _ n (fun k => rSum_apply (arg m c main_arg4) (arg m c main_arg3) (arg m c main_arg2) t s g
    (arg m c main_arg1) x wr (arg m c main_arg7) hg ht hs hx hw n k) j

/-- The items' output: their hidden values come from the users' features. -/
theorem rOutI_apply (hs : ∀ e, arg m c main_arg2 (ix1 e) = BitVec.ofNat 32 (s e).val)
    (ht : ∀ e, arg m c main_arg3 (ix1 e) = BitVec.ofNat 32 (t e).val) (hg : ∀ e, arg m c main_arg4 (ix1 e) = BitVec.ofNat 32 (g e).val)
    (hx : ∀ n k, arg m c main_arg0 (ix2 n k) = ((x n k : ℝ) : EReal))
    (hw : ∀ r k j, arg m c main_arg7 (ix3 r k j) = ((wr r k j : ℝ) : EReal)) (n : Fin 25000) (j : Fin 64) :
    rOutI m c (ix2 n j) = outOf (hid x wr s t g n) (arg m c main_arg8) (arg m c main_arg9) j :=
  rLayer_apply _ _ _ _ n (fun k => rSum_apply (arg m c main_arg4) (arg m c main_arg2) (arg m c main_arg3) s t g
    (arg m c main_arg0) x wr (arg m c main_arg7) hg hs ht hx hw n k) j

end

end Cert.ReferenceIdeal.Hand

end
-- ==== Proof.RefDecoder.lean ====
/-
  The reference program's decoder, read at an index: the two bilinear scores of a pair of rows, mixed by the mixing
  weights.
-/
module

public import proofs.«01_k».proof.Proof.RefRead
public import proofs.«01_k».proof.Proof.Decoder

@[expose] public section

set_option maxRecDepth 16384

noncomputable section

namespace Cert.ReferenceIdeal.Hand

open Cert.ReferenceIdeal Cert.ReferenceIdeal.Gen Cert.Hand
open Cert.KernelIdeal.Hand (score)
open Idealize.ShloMosaic Idealize.ShloMosaic.ValueIdx
open scoped BigOperators

/-- Summing a two-column index along its second axis leaves its first. -/
theorem reduces_pairs : S200000x64.Reduces [1] S200000 := by decide

/-- A slice of the basis matrices, as the reference sums it against a pair of rows, gives the score under that matrix. -/
theorem rScore_apply (x y : Vec Ideal S200000x64 .f32) (p : Vec Ideal S1x64x64 .f32) (e : Fin 200000) :
    rScore x y p (ix1 e) = score (fun k => x (ix2 e k)) (fun k => y (ix2 e k)) (fun l k => p (ix3 (0 : Fin 1) l k)) := by
  unfold rScore
  rw [hostReduceAdd_apply]
  refine (Ideal.hostReduceAdd_single reducesTo_S200000x64_S200000_d1 reduces_pairs _ _ (ix1 e)).trans ?_
  unfold score
  rw [show constant (F := Ideal) S_ .f32 0x00000000#32 (Shape.Idx.first h_S_) = 0 from Ideal.ofBits_zero_f32, zero_add]
  refine Finset.sum_congr rfl fun (k : Fin 64) _ => ?_
  have el : reduces_pairs.lift (ix1 e) k = ix2 e k := by
    funext a; apply Fin.ext
    match a with
    | ⟨0, _⟩ => rfl
    | ⟨1, _⟩ => rfl
  rw [el]
  refine congrArg (· * y (ix2 e k)) ?_
  refine (dot_plain_apply (M := 200000) (K := 64) (N := 64) x _ e k).trans (Finset.sum_congr rfl fun l _ => ?_)
  refine congrArg (x (ix2 e l) * ·) ?_
  refine shapeCast_apply p shapeCasts_S1x64x64_S64x64 (ix2 l k) (ix3 (0 : Fin 1) l k) ?_
  rw [Shape.rowMajor_val_two, Shape.rowMajor_val_three]
  show (0 * 64 + l.val) * 64 + k.val = l.val * 64 + k.val
  omega

/-- A slice of the basis matrices is one of them. -/
theorem pSlice_apply (p : Vec Ideal S2x64x64 .f32) (r : Fin 2) (h : S2x64x64.Slices ![r.val, 0, 0] S1x64x64) (l k : Fin 64) :
    extractStridedSlice S1x64x64 ![r.val, 0, 0] p h (ix3 (0 : Fin 1) l k) = p (ix3 r l k) := by
  refine extractStridedSlice_apply _ p h _ (ix3 r l k) fun a => ?_
  match a with
  | ⟨0, _⟩ => rfl
  | ⟨1, _⟩ => exact (Nat.zero_add _).symm
  | ⟨2, _⟩ => exact (Nat.zero_add _).symm

/-- The mixed scores of a pair of rows. -/
theorem rMix_apply (x y : Vec Ideal S200000x64 .f32) (p : Vec Ideal S2x64x64 .f32) (cw : Vec Ideal S2x5 .f32) (e : Fin 200000)
    (c : Fin 5) : rMix x y p cw (ix2 e c)
      = score (fun k => x (ix2 e k)) (fun k => y (ix2 e k)) (fun l k => p (ix3 (0 : Fin 2) l k)) * cw (ix2 (0 : Fin 2) c)
        + score (fun k => x (ix2 e k)) (fun k => y (ix2 e k)) (fun l k => p (ix3 (1 : Fin 2) l k)) * cw (ix2 (1 : Fin 2) c) := by
  have s0 : rScore x y (extractStridedSlice S1x64x64 ![0, 0, 0] p slices_S2x64x64_S1x64x64_0_0_0) (ix1 e)
      = score (fun k => x (ix2 e k)) (fun k => y (ix2 e k)) (fun l k => p (ix3 (0 : Fin 2) l k)) :=
    (rScore_apply _ _ _ e).trans (congrArg _ (funext fun l => funext fun k => pSlice_apply p 0 slices_S2x64x64_S1x64x64_0_0_0 l k))
  have s1 : rScore x y (extractStridedSlice S1x64x64 ![1, 0, 0] p slices_S2x64x64_S1x64x64_1_0_0) (ix1 e)
      = score (fun k => x (ix2 e k)) (fun k => y (ix2 e k)) (fun l k => p (ix3 (1 : Fin 2) l k)) :=
    (rScore_apply _ _ _ e).trans (congrArg _ (funext fun l => funext fun k => pSlice_apply p 1 slices_S2x64x64_S1x64x64_1_0_0 l k))
  rw [← s0, ← s1]
  unfold rMix
  generalize rScore x y (extractStridedSlice S1x64x64 ![0, 0, 0] p slices_S2x64x64_S1x64x64_0_0_0) = u
  generalize rScore x y (extractStridedSlice S1x64x64 ![1, 0, 0] p slices_S2x64x64_S1x64x64_1_0_0) = v
  refine (dot_plain_apply (M := 200000) (K := 2) (N := 5) _ cw e c).trans ?_
  rw [Fin.sum_univ_two]
  refine congrArg₂ (· + ·) (congrArg (· * cw (ix2 (0 : Fin 2) c)) ?_) (congrArg (· * cw (ix2 (1 : Fin 2) c)) ?_)
  · refine (concatenate_pair_apply_left (t := S200000x2) (s₁ := S200000x1) (s₂ := S200000x1) 1 _ _ _ _ rfl (ix2 e (0 : Fin 1)) fun b => ?_).trans
      (col_apply (by decide) _ u e)
    match b with
    | ⟨0, _⟩ => rfl
    | ⟨1, _⟩ => rfl
  · refine (concatenate_pair_apply_right (t := S200000x2) (s₁ := S200000x1) (s₂ := S200000x1) 1 _ _ _ _ rfl rfl (ix2 e (0 : Fin 1))
      (fun b hb => ?_) ?_).trans (col_apply (by decide) _ v e)
    · match b with
      | ⟨0, _⟩ => rfl
      | ⟨1, _⟩ => exact absurd rfl hb
    · rfl

end Cert.ReferenceIdeal.Hand

end
-- ==== Proof.Equal.lean ====
/-
  The two programs' results are equal when the edge arrays hold node numbers and ratings and the features and rating
  weights are real numbers.
-/
module

public import proofs.«01_k».proof.Proof.KernelOut
public import proofs.«01_k».proof.Proof.MixRead
public import proofs.«01_k».proof.Proof.RefOut
public import proofs.«01_k».proof.Proof.RefDecoder

@[expose] public section

set_option maxRecDepth 16384

noncomputable section

namespace Cert.Hand

open Cert.KernelIdeal (S25000x64 S200000 S200000x64 S200000x8 S200000x5 S2x64x64 S2x5)
open Cert.KernelIdeal.Gen (slices_S200000x8_S200000x5_0_0)
open Cert.KernelIdeal.Hand (mixArr kMix kMix_apply kTake mix)
open Cert.ReferenceIdeal.Hand (rMix rMix_apply rTake)
open Idealize.ShloMosaic Idealize.ShloMosaic.TcCoe Idealize.ShloMosaic.ValueIdx

/-- The two programs read the decoder's rows alike. -/
theorem take_eq (x : Vec Ideal S25000x64 .f32) (i : IVec S200000 32) : kTake (F := Ideal) x i = rTake (F := Ideal) x i := rfl

/-- The first five columns of the kernel's mixed scores are the reference's mixed scores. -/
theorem mix_eq (x y : Vec Ideal S200000x64 .f32) (p : Vec Ideal S2x64x64 .f32) (cw : Vec Ideal S2x5 .f32) :
    extractStridedSlice S200000x5 ![0, 0] (mixArr x y p (kMix (F := Ideal) cw)) slices_S200000x8_S200000x5_0_0
      = rMix (F := Ideal) x y p cw := by
  funext i
  obtain ⟨e, c, rfl⟩ : ∃ (e : Fin 200000) (c : Fin 5), i = ix2 e c := ⟨i 0, i 1, eq_ix2 i⟩
  have hc := c.isLt
  refine ((extractStridedSlice_apply _ _ _ (ix2 e c) (ix2 e (⟨c.val, by omega⟩ : Fin 8)) fun a => ?_).trans ?_).trans
    (rMix_apply x y p cw e c).symm
  · match a with
    | ⟨0, _⟩ => exact (Nat.zero_add _).symm
    | ⟨1, _⟩ => exact (Nat.zero_add _).symm
  · show mix (fun k => x (ix2 e k)) (fun k => y (ix2 e k)) p (kMix (F := Ideal) cw) _ = _
    unfold mix
    rw [kMix_apply cw 0 c _ rfl, kMix_apply cw 1 c _ rfl]

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (s t : Fin 400000 → Fin 25000) (g : Fin 400000 → Fin 5)
variable (xu xi : Fin 25000 → Fin 128 → ℝ) (wr : Fin 5 → Fin 128 → Fin 128 → ℝ)

/-- From the same arguments the two programs end with the same scores. -/
theorem results_eq
    (h0 : Cert.ReferenceIdeal.Hand.arg m' c Cert.ReferenceIdeal.main_arg0 = Cert.KernelIdeal.Hand.arg m c Cert.KernelIdeal.main_arg0)
    (h1 : Cert.ReferenceIdeal.Hand.arg m' c Cert.ReferenceIdeal.main_arg1 = Cert.KernelIdeal.Hand.arg m c Cert.KernelIdeal.main_arg1)
    (h2 : Cert.ReferenceIdeal.Hand.arg m' c Cert.ReferenceIdeal.main_arg2 = Cert.KernelIdeal.Hand.arg m c Cert.KernelIdeal.main_arg2)
    (h3 : Cert.ReferenceIdeal.Hand.arg m' c Cert.ReferenceIdeal.main_arg3 = Cert.KernelIdeal.Hand.arg m c Cert.KernelIdeal.main_arg3)
    (h4 : Cert.ReferenceIdeal.Hand.arg m' c Cert.ReferenceIdeal.main_arg4 = Cert.KernelIdeal.Hand.arg m c Cert.KernelIdeal.main_arg4)
    (h5 : Cert.ReferenceIdeal.Hand.arg m' c Cert.ReferenceIdeal.main_arg5 = Cert.KernelIdeal.Hand.arg m c Cert.KernelIdeal.main_arg5)
    (h6 : Cert.ReferenceIdeal.Hand.arg m' c Cert.ReferenceIdeal.main_arg6 = Cert.KernelIdeal.Hand.arg m c Cert.KernelIdeal.main_arg6)
    (h7 : Cert.ReferenceIdeal.Hand.arg m' c Cert.ReferenceIdeal.main_arg7 = Cert.KernelIdeal.Hand.arg m c Cert.KernelIdeal.main_arg7)
    (h8 : Cert.ReferenceIdeal.Hand.arg m' c Cert.ReferenceIdeal.main_arg8 = Cert.KernelIdeal.Hand.arg m c Cert.KernelIdeal.main_arg8)
    (h9 : Cert.ReferenceIdeal.Hand.arg m' c Cert.ReferenceIdeal.main_arg9 = Cert.KernelIdeal.Hand.arg m c Cert.KernelIdeal.main_arg9)
    (h10 : Cert.ReferenceIdeal.Hand.arg m' c Cert.ReferenceIdeal.main_arg10 = Cert.KernelIdeal.Hand.arg m c Cert.KernelIdeal.main_arg10)
    (h11 : Cert.ReferenceIdeal.Hand.arg m' c Cert.ReferenceIdeal.main_arg11 = Cert.KernelIdeal.Hand.arg m c Cert.KernelIdeal.main_arg11)
    (hs : ∀ e, Cert.KernelIdeal.Hand.arg m c Cert.KernelIdeal.main_arg2 (ix1 e) = BitVec.ofNat 32 (s e).val)
    (ht : ∀ e, Cert.KernelIdeal.Hand.arg m c Cert.KernelIdeal.main_arg3 (ix1 e) = BitVec.ofNat 32 (t e).val)
    (hg : ∀ e, Cert.KernelIdeal.Hand.arg m c Cert.KernelIdeal.main_arg4 (ix1 e) = BitVec.ofNat 32 (g e).val)
    (hxu : ∀ n k, Cert.KernelIdeal.Hand.arg m c Cert.KernelIdeal.main_arg0 (ix2 n k) = ((xu n k : ℝ) : EReal))
    (hxi : ∀ n k, Cert.KernelIdeal.Hand.arg m c Cert.KernelIdeal.main_arg1 (ix2 n k) = ((xi n k : ℝ) : EReal))
    (hw : ∀ r k j, Cert.KernelIdeal.Hand.arg m c Cert.KernelIdeal.main_arg7 (ix3 r k j) = ((wr r k j : ℝ) : EReal)) :
    rMix (F := Ideal) (rTake (Cert.ReferenceIdeal.Hand.rOutU m' c) (Cert.ReferenceIdeal.Hand.arg m' c Cert.ReferenceIdeal.main_arg5))
        (rTake (Cert.ReferenceIdeal.Hand.rOutI m' c) (Cert.ReferenceIdeal.Hand.arg m' c Cert.ReferenceIdeal.main_arg6))
        (Cert.ReferenceIdeal.Hand.arg m' c Cert.ReferenceIdeal.main_arg10) (Cert.ReferenceIdeal.Hand.arg m' c Cert.ReferenceIdeal.main_arg11)
      = extractStridedSlice S200000x5 ![0, 0]
          (mixArr (kTake (F := Ideal) (Cert.KernelIdeal.Hand.outU m c) (Cert.KernelIdeal.Hand.arg m c Cert.KernelIdeal.main_arg5))
            (kTake (F := Ideal) (Cert.KernelIdeal.Hand.outI m c) (Cert.KernelIdeal.Hand.arg m c Cert.KernelIdeal.main_arg6))
            (Cert.KernelIdeal.Hand.arg m c Cert.KernelIdeal.main_arg10)
            (kMix (F := Ideal) (Cert.KernelIdeal.Hand.arg m c Cert.KernelIdeal.main_arg11))) slices_S200000x8_S200000x5_0_0 := by
  have eU : Cert.ReferenceIdeal.Hand.rOutU m' c = Cert.KernelIdeal.Hand.outU m c := funext fun i => by
    obtain ⟨n, j, rfl⟩ : ∃ (n : Fin 25000) (j : Fin 64), i = ix2 n j := ⟨i 0, i 1, eq_ix2 i⟩
    refine (Cert.ReferenceIdeal.Hand.rOutU_apply m' c s t g xi wr (fun e => (congrFun h2 _).trans (hs e))
      (fun e => (congrFun h3 _).trans (ht e)) (fun e => (congrFun h4 _).trans (hg e)) (fun n k => (congrFun h1 _).trans (hxi n k))
      (fun r k j => (congrFun h7 _).trans (hw r k j)) n j).trans ?_
    rw [h8, h9]
    exact (Cert.KernelIdeal.Hand.outU_apply m c s t g xi wr hs ht hg hxi hw n j).symm
  have eI : Cert.ReferenceIdeal.Hand.rOutI m' c = Cert.KernelIdeal.Hand.outI m c := funext fun i => by
    obtain ⟨n, j, rfl⟩ : ∃ (n : Fin 25000) (j : Fin 64), i = ix2 n j := ⟨i 0, i 1, eq_ix2 i⟩
    refine (Cert.ReferenceIdeal.Hand.rOutI_apply m' c s t g xu wr (fun e => (congrFun h2 _).trans (hs e))
      (fun e => (congrFun h3 _).trans (ht e)) (fun e => (congrFun h4 _).trans (hg e)) (fun n k => (congrFun h0 _).trans (hxu n k))
      (fun r k j => (congrFun h7 _).trans (hw r k j)) n j).trans ?_
    rw [h8, h9]
    exact (Cert.KernelIdeal.Hand.outI_apply m c s t g xu wr hs ht hg hxu hw n j).symm
  rw [eU, eI, h5, h6, h10, h11, ← take_eq, ← take_eq]
  exact (mix_eq _ _ _ _).symm

end

end Cert.Hand

end
-- ==== Proof.PreRead.lean ====
/-
  The precondition read at an index: edge entries are node numbers and ratings, features and rating weights are real
  numbers.
-/
module

public import proofs.«01_k».proof.Defs
public import proofs.«01_k».proof.Proof.Gen.Pre_drawn_edges
public import Idealize.ShloMosaic.Lib.ValueIdx
public import Idealize.ShloMosaic.Lib.IdealHost

@[expose] public section

set_option maxRecDepth 16384

noncomputable section

namespace Cert.Hand

open Idealize.ShloMosaic Idealize.ShloMosaic.ValueIdx

/-- A word that is at least zero and below `N`, both signed, is one of the numbers below `N`. -/
theorem word_of_range (N : ℕ) (hN : N < 2 ^ 31) (x : BitVec 32)
    (h : IntOp.cmpi .sge x 0#32 &&& IntOp.cmpi .slt x (BitVec.ofNat 32 N) = 1#1) : ∃ v : Fin N, x = BitVec.ofNat 32 v.val := by
  have hand : ∀ p q : Bool, BitVec.ofBool p &&& BitVec.ofBool q = 1#1 → p = true ∧ q = true := by decide
  have hb : BitVec.sle 0#32 x = true ∧ BitVec.slt x (BitVec.ofNat 32 N) = true := hand _ _ h
  have hx := x.isLt
  obtain ⟨h1, h2⟩ := hb
  rw [BitVec.sle_iff_toInt_le] at h1
  rw [BitVec.slt_iff_toInt_lt] at h2
  have e0 : (0#32 : BitVec 32).toInt = 0 := by decide
  have eN : (BitVec.ofNat 32 N).toInt = (N : Int) := by
    rw [BitVec.toInt_eq_toNat_cond, BitVec.toNat_ofNat, Nat.mod_eq_of_lt (by omega), if_pos (by omega)]
  rw [e0] at h1
  rw [eN] at h2
  rw [BitVec.toInt_eq_toNat_cond] at h1 h2
  have hlt : x.toNat < N := by
    by_cases hc : 2 * x.toNat < 2 ^ 32
    · rw [if_pos hc] at h2
      omega
    · rw [if_neg hc] at h1
      omega
  exact ⟨⟨x.toNat, hlt⟩, BitVec.eq_of_toNat_eq (by rw [BitVec.toNat_ofNat, Nat.mod_eq_of_lt hx])⟩

/-- A number whose absolute value is below infinity is real. -/
theorem real_of_abs (x : EReal) (h : Ideal.cmp .olt (max x (-x)) (Ideal.ofBits .f32 0x7F800000#32) = 1#1) :
    ∃ r : ℝ, x = ((r : ℝ) : EReal) := by
  have htop : Ideal.ofBits .f32 0x7F800000#32 = ⊤ := by simp [Ideal.ofBits, Ideal.ieee]
  have hlt : max x (-x) < ⊤ := by
    rw [htop] at h
    unfold Ideal.cmp at h
    by_contra hn
    simp only [hn, decide_false] at h
    exact absurd h (by decide)
  induction x with
  | bot => simp at hlt
  | top => simp at hlt
  | coe r => exact ⟨r, rfl⟩

section

variable [hPre : Cert.Pre_drawn_edges.Facts]
variable (m : (ℓ : Loc Cert.KernelIdeal.nD Cert.KernelIdeal.τ Cert.KernelIdeal.sig) → Buf (Elt Ideal) ℓ)

/-- Under the precondition every edge names nodes and a rating, and the features and rating weights are real. -/
theorem pre_read (h : Pre_KernelIdeal_drawn_edges m) (c : Dev Cert.KernelIdeal.nD) :
    (∃ s : Fin 400000 → Fin 25000, ∀ e, m ((c.tc : Thread Cert.KernelIdeal.nD Cert.KernelIdeal.τ).loc Cert.KernelIdeal.main_arg2) (ix1 e) = BitVec.ofNat 32 (s e).val)
    ∧ (∃ t : Fin 400000 → Fin 25000, ∀ e, m ((c.tc : Thread Cert.KernelIdeal.nD Cert.KernelIdeal.τ).loc Cert.KernelIdeal.main_arg3) (ix1 e) = BitVec.ofNat 32 (t e).val)
    ∧ (∃ g : Fin 400000 → Fin 5, ∀ e, m ((c.tc : Thread Cert.KernelIdeal.nD Cert.KernelIdeal.τ).loc Cert.KernelIdeal.main_arg4) (ix1 e) = BitVec.ofNat 32 (g e).val)
    ∧ (∃ xu : Fin 25000 → Fin 128 → ℝ, ∀ n k, m ((c.tc : Thread Cert.KernelIdeal.nD Cert.KernelIdeal.τ).loc Cert.KernelIdeal.main_arg0) (ix2 n k) = ((xu n k : ℝ) : EReal))
    ∧ (∃ xi : Fin 25000 → Fin 128 → ℝ, ∀ n k, m ((c.tc : Thread Cert.KernelIdeal.nD Cert.KernelIdeal.τ).loc Cert.KernelIdeal.main_arg1) (ix2 n k) = ((xi n k : ℝ) : EReal))
    ∧ (∃ wr : Fin 5 → Fin 128 → Fin 128 → ℝ, ∀ r k j, m ((c.tc : Thread Cert.KernelIdeal.nD Cert.KernelIdeal.τ).loc Cert.KernelIdeal.main_arg7) (ix3 r k j) = ((wr r k j : ℝ) : EReal)) := by
  obtain ⟨h2, h3, h4, h0, h1, h7⟩ := h c
  refine ⟨?_, ?_, ?_, ?_, ?_, ?_⟩
  · choose s hs using fun e : Fin 400000 => word_of_range 25000 (by decide) _ (congrFun h2 (ix1 e))
    exact ⟨s, hs⟩
  · choose t ht using fun e : Fin 400000 => word_of_range 25000 (by decide) _ (congrFun h3 (ix1 e))
    exact ⟨t, ht⟩
  · choose g hg using fun e : Fin 400000 => word_of_range 5 (by decide) _ (congrFun h4 (ix1 e))
    exact ⟨g, hg⟩
  · choose x hx using fun (n : Fin 25000) (k : Fin 128) => real_of_abs _ (congrFun h0 (ix2 n k))
    exact ⟨x, hx⟩
  · choose x hx using fun (n : Fin 25000) (k : Fin 128) => real_of_abs _ (congrFun h1 (ix2 n k))
    exact ⟨x, hx⟩
  · choose x hx using fun (r : Fin 5) (k j : Fin 128) => real_of_abs _ (congrFun h7 (ix3 r k j))
    exact ⟨x, hx⟩

end

end Cert.Hand

end
-- ==== Proof.Claims.lean ====
/-
  The claims about the reference program's run and the equality of the two programs' results.
-/
module

public import proofs.«01_k».proof.Proof.KRun
public import proofs.«01_k».proof.Proof.KernelResult
public import proofs.«01_k».proof.Proof.Equal
public import proofs.«01_k».proof.Proof.PreRead

@[expose] public section

set_option maxRecDepth 16384

noncomputable section

namespace Cert.Hand

open Idealize.ShloMosaic Idealize.ShloMosaic.TcCoe Idealize.SL.Sem

/-- The reference program runs, leaves its arguments unchanged, and declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Hand.run (F := Ideal) m ρ)

/-- Kernel and reference end with the same scores, under the precondition. -/
theorem results_agree : Cert.algebraic_KernelIdeal_ReferenceIdeal_pre_drawn_edges (hKernelIdeal := Cert.KernelIdeal.Gen.facts)
    (hReferenceIdeal := Cert.ReferenceIdeal.Gen.facts) (hPre_drawn_edges := Cert.Pre_drawn_edges.Gen.facts) := by
  intro m ρ m' ρ' hpre harg
  refine ⟨fun c => Cert.KernelIdeal.Gen.W9 m ρ c (Proc.devRef .tc Cert.KernelIdeal.main_v98),
    Cert.KernelIdeal.Hand.run (F := Ideal) m ρ,
    (θ_run Cert.ReferenceIdeal.defs _ _).mono (fun r h c => ⟨(h c).1.trans ?_, (h c).2⟩)
      (Cert.ReferenceIdeal.Hand.run (F := Ideal) m' ρ')⟩
  obtain ⟨⟨s, hs⟩, ⟨t, ht⟩, ⟨g, hg⟩, ⟨xu, hxu⟩, ⟨xi, hxi⟩, ⟨wr, hw⟩⟩ := pre_read m hpre c
  obtain ⟨h0, h1, h2, h3, h4, h5, h6, h7, h8, h9, h10, h11⟩ := harg c
  exact (results_eq m m' c s t g xu xi wr h0 h1 h2 h3 h4 h5 h6 h7 h8 h9 h10 h11 hs ht hg hxu hxi hw).trans
    (Cert.KernelIdeal.Hand.result m ρ c).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn_edges
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything claimed: the runs of the three programs, the kernel read over the extended reals, and the equality of the
    kernel's and the reference's results. -/
theorem claim : Cert.Claim := ⟨Cert.Kernel.Gen.facts, Cert.KernelIdeal.Gen.facts, Cert.ReferenceIdeal.Gen.facts, Cert.Pre_drawn_edges.Gen.facts,
  fun m ρ _ => Cert.Kernel.Gen.frame m ρ,
  fun m ρ _ => Cert.KernelIdeal.Gen.frame m ρ,
  fun m ρ _ => Cert.KernelIdeal.Gen.frame m ρ,
  Cert.Hand.reference_frame,
  fun m ρ _ => Cert.Hand.reference_frame m ρ trivial,
  trivial,
  Cert.Hand.results_agree⟩

end Cert.Proof

end
